-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x7 : Shape := ⟨2, ![100000, 7]⟩
abbrev S2x1600000 : Shape := ⟨2, ![2, 1600000]⟩
abbrev S1600000x4 : Shape := ⟨2, ![1600000, 4]⟩
abbrev S1024x64 : Shape := ⟨2, ![1024, 64]⟩
abbrev S100000 : Shape := ⟨1, ![100000]⟩
abbrev S71x64 : Shape := ⟨2, ![71, 64]⟩
abbrev S64 : Shape := ⟨1, ![64]⟩
abbrev S64x64 : Shape := ⟨2, ![64, 64]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x7 .f32) (main_arg1 : IVec S2x1600000 32) (main_arg2 : FVec F S1600000x4 .f32) (main_arg3 : FVec F S1024x64 .f32) (main_arg4 : IVec S100000 32) (main_arg5 : FVec F S71x64 .f32) (main_arg6 : FVec F S64 .f32) (main_arg7 : FVec F S64x64 .f32) (main_arg8 : FVec F S64 .f32) : IVec S_ 1 :=
  let main_c : IVec S_ 32 := constantI S_ 32 0#32
  let main_v0 : IVec S100000 32 := broadcastInDim S100000 ![] bcast_S_S100000 main_c
  let main_v1 : IVec S100000 1 := cmpi .sge main_arg4 main_v0
  let main_c_0 : IVec S_ 32 := constantI S_ 32 1024#32
  let main_v2 : IVec S100000 32 := broadcastInDim S100000 ![] bcast_S_S100000 main_c_0
  let main_v3 : IVec S100000 1 := cmpi .slt main_arg4 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x7 : Shape := ⟨2, ![100000, 7]⟩
abbrev S2x1600000 : Shape := ⟨2, ![2, 1600000]⟩
abbrev S1600000x4 : Shape := ⟨2, ![1600000, 4]⟩
abbrev S1024x64 : Shape := ⟨2, ![1024, 64]⟩
abbrev S100000 : Shape := ⟨1, ![100000]⟩
abbrev S71x64 : Shape := ⟨2, ![71, 64]⟩
abbrev S64 : Shape := ⟨1, ![64]⟩
abbrev S64x64 : Shape := ⟨2, ![64, 64]⟩
abbrev S7x100000 : Shape := ⟨2, ![7, 100000]⟩
abbrev S32x8x1024 : Shape := ⟨3, ![32, 8, 1024]⟩
abbrev S7x3144 : Shape := ⟨2, ![7, 3144]⟩
abbrev S3144 : Shape := ⟨1, ![3144]⟩
abbrev S8192 : Shape := ⟨1, ![8192]⟩
abbrev S_ : Shape := ⟨0, ![]⟩
abbrev S1x3144 : Shape := ⟨2, ![1, 3144]⟩
abbrev S16 : Shape := ⟨1, ![16]⟩
abbrev S1024 : Shape := ⟨1, ![1024]⟩
abbrev S1x1x1024 : Shape := ⟨3, ![1, 1, 1024]⟩
abbrev S7x64 : Shape := ⟨2, ![7, 64]⟩
abbrev S1x64 : Shape := ⟨2, ![1, 64]⟩
abbrev S1x8x1024 : Shape := ⟨3, ![1, 8, 1024]⟩
abbrev S8x1024 : Shape := ⟨2, ![8, 1024]⟩
abbrev S7x1024 : Shape := ⟨2, ![7, 1024]⟩
abbrev S1x1024 : Shape := ⟨2, ![1, 1024]⟩

abbrev nBuf : Table → Nat
  | .hbm => 16
  | .local .tc .vmem => 8
  | .local .scVector .vmem => 3
  | _ => 0

abbrev bufTy : (tb : Table) → Fin (nBuf tb) → BufTy
  | .hbm, ⟨0, _⟩ => ⟨S100000x7, .f32⟩
  | .hbm, ⟨1, _⟩ => ⟨S2x1600000, .i32⟩
  | .hbm, ⟨2, _⟩ => ⟨S1600000x4, .f32⟩
  | .hbm, ⟨3, _⟩ => ⟨S1024x64, .f32⟩
  | .hbm, ⟨4, _⟩ => ⟨S100000, .i32⟩
  | .hbm, ⟨5, _⟩ => ⟨S71x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S7x100000, .f32⟩
  | .hbm, ⟨10, _⟩ => ⟨S32x8x1024, .f32⟩
  | .hbm, ⟨11, _⟩ => ⟨S64x64, .f32⟩
  | .hbm, ⟨12, _⟩ => ⟨S7x64, .f32⟩
  | .hbm, ⟨13, _⟩ => ⟨S1x64, .f32⟩
  | .hbm, ⟨14, _⟩ => ⟨S1x64, .f32⟩
  | .hbm, ⟨15, _⟩ => ⟨S1024x64, .f32⟩
  | .local .tc .vmem, ⟨0, _⟩ => ⟨S32x8x1024, .f32⟩
  | .local .tc .vmem, ⟨1, _⟩ => ⟨S1024x64, .f32⟩
  | .local .tc .vmem, ⟨2, _⟩ => ⟨S64x64, .f32⟩
  | .local .tc .vmem, ⟨3, _⟩ => ⟨S7x64, .f32⟩
  | .local .tc .vmem, ⟨4, _⟩ => ⟨S1x64, .f32⟩
  | .local .tc .vmem, ⟨5, _⟩ => ⟨S64x64, .f32⟩
  | .local .tc .vmem, ⟨6, _⟩ => ⟨S1x64, .f32⟩
  | .local .tc .vmem, ⟨7, _⟩ => ⟨S1024x64, .f32⟩
  | .local .scVector .vmem, ⟨0, _⟩ => ⟨S7x3144, .f32⟩
  | .local .scVector .vmem, ⟨1, _⟩ => ⟨S3144, .i32⟩
  | .local .scVector .vmem, ⟨2, _⟩ => ⟨S8192, .f32⟩
  | _, _ => ⟨S100000x7, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v0_scv : Ref sig .scVector := ⟨.hbm, 9, rfl⟩
abbrev main_arg4_scv : Ref sig .scVector := ⟨.hbm, 4, rfl⟩
abbrev main_v1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  v21
def k0_off1 (i : grid0.Coords) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![0, v22.toNat]
def k0_off2 (i : grid0.Coords) : Fin 2 → Nat :=
  let c1_i32_7 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![1, v22.toNat]
def k0_off3 (i : grid0.Coords) : Fin 2 → Nat :=
  let c2_i32_9 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![2, v22.toNat]
def k0_off4 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![3, v22.toNat]
def k0_off5 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![4, v22.toNat]
def k0_off6 (i : grid0.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![5, v22.toNat]
def k0_off7 (i : grid0.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![6, v22.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let c96856_i32 : BitVec 32 := 96856#32
  let v21 : BitVec 32 := Scalar.minsi v20 c96856_i32
  let v22 : BitVec 32 := v21
  ![v22.toNat]
@[reducible] def k0_t1_loop : Scf.Loop 32 :=
  let c0_i32_15 : BitVec 32 := 0#32
  let c512_i32 : BitVec 32 := 512#32
  let v25 : BitVec 32 := Scalar.addi c0_i32_15 c512_i32
  let c1_i32_16 : BitVec 32 := 1#32
  ⟨c0_i32_15, v25, c1_i32_16⟩
def k0_off9 (k0_t1 : Fin k0_t1_loop.trips) : Fin 1 → Nat :=
  let c0_i32_37 : BitVec 32 := 0#32
  let c0_i32_15 : BitVec 32 := 0#32
  let c1_i32_16 : BitVec 32 := 1#32
  let arg8 : BitVec 32 := Scf.iv c0_i32_15 c1_i32_16 k0_t1
  let c1_i32_36 : BitVec 32 := 1#32
  let v38 : BitVec 32 := Scalar.muli arg8 c1_i32_36
  let v39 : BitVec 32 := Scalar.addi c0_i32_37 v38
  let c16_i32 : BitVec 32 := 16#32
  let v40 : BitVec 32 := Scalar.muli v39 c16_i32
  let v41 : Index := Scalar.indexCast v40
  ![v41.toNat]
@[reducible] def k0_t2_loop : Scf.Loop 32 :=
  let c0_i32_26 : BitVec 32 := 0#32
  let c98_i32 : BitVec 32 := 98#32
  let v37 : BitVec 32 := Scalar.addi c0_i32_26 c98_i32
  let c1_i32_27 : BitVec 32 := 1#32
  ⟨c0_i32_26, v37, c1_i32_27⟩

def k0_chk2 (v50 : IVec S16 32) : Prop :=
  (∀ a x, ((![v50] : Fin 1 → IVec S16 32) a x).toNat < S8192.size a)
theorem k0_idx2_inb : ∀ (v50 : IVec S16 32) (k0_hw2 : k0_chk2 v50), ∀ a x, ((![v50] : Fin 1 → IVec S16 32) a x).toNat < S8192.size a := fun v50 k0_hw2 => k0_hw2

def k0_chk3 (v53 : IVec S16 32) : Prop :=
  (∀ a x, ((![v53] : Fin 1 → IVec S16 32) a x).toNat < S8192.size a)
theorem k0_idx4_inb : ∀ (v53 : IVec S16 32) (k0_hw3 : k0_chk3 v53), ∀ a x, ((![v53] : Fin 1 → IVec S16 32) a x).toNat < S8192.size a := fun v53 k0_hw3 => k0_hw3

def k0_chk4 (v56 : IVec S16 32) : Prop :=
  (∀ a x, ((![v56] : Fin 1 → IVec S16 32) a x).toNat < S8192.size a)
theorem k0_idx6_inb : ∀ (v56 : IVec S16 32) (k0_hw4 : k0_chk4 v56), ∀ a x, ((![v56] : Fin 1 → IVec S16 32) a x).toNat < S8192.size a := fun v56 k0_hw4 => k0_hw4

def k0_chk5 (v59 : IVec S16 32) : Prop :=
  (∀ a x, ((![v59] : Fin 1 → IVec S16 32) a x).toNat < S8192.size a)
theorem k0_idx8_inb : ∀ (v59 : IVec S16 32) (k0_hw5 : k0_chk5 v59), ∀ a x, ((![v59] : Fin 1 → IVec S16 32) a x).toNat < S8192.size a := fun v59 k0_hw5 => k0_hw5

def k0_chk6 (v62 : IVec S16 32) : Prop :=
  (∀ a x, ((![v62] : Fin 1 → IVec S16 32) a x).toNat < S8192.size a)
theorem k0_idx10_inb : ∀ (v62 : IVec S16 32) (k0_hw6 : k0_chk6 v62), ∀ a x, ((![v62] : Fin 1 → IVec S16 32) a x).toNat < S8192.size a := fun v62 k0_hw6 => k0_hw6

def k0_chk7 (v65 : IVec S16 32) : Prop :=
  (∀ a x, ((![v65] : Fin 1 → IVec S16 32) a x).toNat < S8192.size a)
theorem k0_idx12_inb : ∀ (v65 : IVec S16 32) (k0_hw7 : k0_chk7 v65), ∀ a x, ((![v65] : Fin 1 → IVec S16 32) a x).toNat < S8192.size a := fun v65 k0_hw7 => k0_hw7

def k0_chk8 (v68 : IVec S16 32) : Prop :=
  (∀ a x, ((![v68] : Fin 1 → IVec S16 32) a x).toNat < S8192.size a)
theorem k0_idx14_inb : ∀ (v68 : IVec S16 32) (k0_hw8 : k0_chk8 v68), ∀ a x, ((![v68] : Fin 1 → IVec S16 32) a x).toNat < S8192.size a := fun v68 k0_hw8 => k0_hw8

def k0_chk1 (v30 : IVec S16 32) (v31 : IVec S16 32) (v32 : IVec S16 32) (v33 : IVec S16 32) (v34 : IVec S16 32) (v35 : IVec S16 32) (v36 : IVec S16 32) (v47 : IVec S16 32) : Prop :=
  (∀ a x, ((![v47] : Fin 1 → IVec S16 32) a x).toNat < S3144.size a) ∧
  (∀ a x, ((![v30, v47] : Fin 2 → IVec S16 32) a x).toNat < S7x3144.size a) ∧
  (∀ a x, ((![v31, v47] : Fin 2 → IVec S16 32) a x).toNat < S7x3144.size a) ∧
  (∀ a x, ((![v32, v47] : Fin 2 → IVec S16 32) a x).toNat < S7x3144.size a) ∧
  (∀ a x, ((![v33, v47] : Fin 2 → IVec S16 32) a x).toNat < S7x3144.size a) ∧
  (∀ a x, ((![v34, v47] : Fin 2 → IVec S16 32) a x).toNat < S7x3144.size a) ∧
  (∀ a x, ((![v35, v47] : Fin 2 → IVec S16 32) a x).toNat < S7x3144.size a) ∧
  (∀ a x, ((![v36, v47] : Fin 2 → IVec S16 32) a x).toNat < S7x3144.size a)
theorem k0_idx1_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v47] : Fin 1 → IVec S16 32) a x).toNat < S3144.size a := fun v30 v31 v32 v33 v34 v35 v36 v47 k0_hw1 => k0_hw1.1
theorem k0_idx3_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v30, v47] : Fin 2 → IVec S16 32) a x).toNat < S7x3144.size a := fun v30 v31 v32 v33 v34 v35 v36 v47 k0_hw1 => k0_hw1.2.1
theorem k0_idx5_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v31, v47] : Fin 2 → IVec S16 32) a x).toNat < S7x3144.size a := fun v30 v31 v32 v33 v34 v35 v36 v47 k0_hw1 => k0_hw1.2.2.1
theorem k0_idx7_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v32, v47] : Fin 2 → IVec S16 32) a x).toNat < S7x3144.size a := fun v30 v31 v32 v33 v34 v35 v36 v47 k0_hw1 => k0_hw1.2.2.2.1
theorem k0_idx9_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v33, v47] : Fin 2 → IVec S16 32) a x).toNat < S7x3144.size a := fun v30 v31 v32 v33 v34 v35 v36 v47 k0_hw1 => k0_hw1.2.2.2.2.1
theorem k0_idx11_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v34, v47] : Fin 2 → IVec S16 32) a x).toNat < S7x3144.size a := fun v30 v31 v32 v33 v34 v35 v36 v47 k0_hw1 => k0_hw1.2.2.2.2.2.1
theorem k0_idx13_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v35, v47] : Fin 2 → IVec S16 32) a x).toNat < S7x3144.size a := fun v30 v31 v32 v33 v34 v35 v36 v47 k0_hw1 => k0_hw1.2.2.2.2.2.2.1
theorem k0_idx15_inb : ∀ (v30 : IVec S16 32) (v31 : IVec S16 32) (v32 : IVec S16 32) (v33 : IVec S16 32) (v34 : IVec S16 32) (v35 : IVec S16 32) (v36 : IVec S16 32) (v47 : IVec S16 32) (k0_hw1 : k0_chk1 v30 v31 v32 v33 v34 v35 v36 v47), ∀ a x, ((![v36, v47] : Fin 2 → IVec S16 32) a x).toNat < S7x3144.size a := fun v30 v31 v32 v33 v34 v35 v36 v47 k0_hw1 => k0_hw1.2.2.2.2.2.2.2

def k0_chk9 (v71 : IVec S16 32) : Prop :=
  (∀ a x, ((![v71] : Fin 1 → IVec S16 32) a x).toNat < S8192.size a)
theorem k0_idx16_inb : ∀ (v71 : IVec S16 32) (k0_hw9 : k0_chk9 v71), ∀ a x, ((![v71] : Fin 1 → IVec S16 32) a x).toNat < S8192.size a := fun v71 k0_hw9 => k0_hw9

def k0_chk11 (v83 : IVec S16 32) : Prop :=
  (∀ a x, ((![v83] : Fin 1 → IVec S16 32) a x).toNat < S8192.size a)
theorem k0_idx18_inb : ∀ (v83 : IVec S16 32) (k0_hw11 : k0_chk11 v83), ∀ a x, ((![v83] : Fin 1 → IVec S16 32) a x).toNat < S8192.size a := fun v83 k0_hw11 => k0_hw11

def k0_chk12 (v86 : IVec S16 32) : Prop :=
  (∀ a x, ((![v86] : Fin 1 → IVec S16 32) a x).toNat < S8192.size a)
theorem k0_idx20_inb : ∀ (v86 : IVec S16 32) (k0_hw12 : k0_chk12 v86), ∀ a x, ((![v86] : Fin 1 → IVec S16 32) a x).toNat < S8192.size a := fun v86 k0_hw12 => k0_hw12

def k0_chk13 (v89 : IVec S16 32) : Prop :=
  (∀ a x, ((![v89] : Fin 1 → IVec S16 32) a x).toNat < S8192.size a)
theorem k0_idx22_inb : ∀ (v89 : IVec S16 32) (k0_hw13 : k0_chk13 v89), ∀ a x, ((![v89] : Fin 1 → IVec S16 32) a x).toNat < S8192.size a := fun v89 k0_hw13 => k0_hw13

def k0_chk14 (v92 : IVec S16 32) : Prop :=
  (∀ a x, ((![v92] : Fin 1 → IVec S16 32) a x).toNat < S8192.size a)
theorem k0_idx24_inb : ∀ (v92 : IVec S16 32) (k0_hw14 : k0_chk14 v92), ∀ a x, ((![v92] : Fin 1 → IVec S16 32) a x).toNat < S8192.size a := fun v92 k0_hw14 => k0_hw14

def k0_chk15 (v95 : IVec S16 32) : Prop :=
  (∀ a x, ((![v95] : Fin 1 → IVec S16 32) a x).toNat < S8192.size a)
theorem k0_idx26_inb : ∀ (v95 : IVec S16 32) (k0_hw15 : k0_chk15 v95), ∀ a x, ((![v95] : Fin 1 → IVec S16 32) a x).toNat < S8192.size a := fun v95 k0_hw15 => k0_hw15

def k0_chk16 (v98 : IVec S16 32) : Prop :=
  (∀ a x, ((![v98] : Fin 1 → IVec S16 32) a x).toNat < S8192.size a)
theorem k0_idx28_inb : ∀ (v98 : IVec S16 32) (k0_hw16 : k0_chk16 v98), ∀ a x, ((![v98] : Fin 1 → IVec S16 32) a x).toNat < S8192.size a := fun v98 k0_hw16 => k0_hw16

def k0_chk17 (v101 : IVec S16 32) : Prop :=
  (∀ a x, ((![v101] : Fin 1 → IVec S16 32) a x).toNat < S8192.size a)
theorem k0_idx30_inb : ∀ (v101 : IVec S16 32) (k0_hw17 : k0_chk17 v101), ∀ a x, ((![v101] : Fin 1 → IVec S16 32) a x).toNat < S8192.size a := fun v101 k0_hw17 => k0_hw17

def k0_chk10 (v30 : IVec S16 32) (v31 : IVec S16 32) (v32 : IVec S16 32) (v33 : IVec S16 32) (v34 : IVec S16 32) (v35 : IVec S16 32) (v36 : IVec S16 32) (v80 : IVec S16 32) : Prop :=
  (∀ a x, ((![v80] : Fin 1 → IVec S16 32) a x).toNat < S3144.size a) ∧
  (∀ a x, ((![v30, v80] : Fin 2 → IVec S16 32) a x).toNat < S7x3144.size a) ∧
  (∀ a x, ((![v31, v80] : Fin 2 → IVec S16 32) a x).toNat < S7x3144.size a) ∧
  (∀ a x, ((![v32, v80] : Fin 2 → IVec S16 32) a x).toNat < S7x3144.size a) ∧
  (∀ a x, ((![v33, v80] : Fin 2 → IVec S16 32) a x).toNat < S7x3144.size a) ∧
  (∀ a x, ((![v34, v80] : Fin 2 → IVec S16 32) a x).toNat < S7x3144.size a) ∧
  (∀ a x, ((![v35, v80] : Fin 2 → IVec S16 32) a x).toNat < S7x3144.size a) ∧
  (∀ a x, ((![v36, v80] : Fin 2 → IVec S16 32) a x).toNat < S7x3144.size a)
theorem k0_idx17_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v80] : Fin 1 → IVec S16 32) a x).toNat < S3144.size a := fun v30 v31 v32 v33 v34 v35 v36 v80 k0_hw10 => k0_hw10.1
theorem k0_idx19_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v30, v80] : Fin 2 → IVec S16 32) a x).toNat < S7x3144.size a := fun v30 v31 v32 v33 v34 v35 v36 v80 k0_hw10 => k0_hw10.2.1
theorem k0_idx21_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v31, v80] : Fin 2 → IVec S16 32) a x).toNat < S7x3144.size a := fun v30 v31 v32 v33 v34 v35 v36 v80 k0_hw10 => k0_hw10.2.2.1
theorem k0_idx23_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v32, v80] : Fin 2 → IVec S16 32) a x).toNat < S7x3144.size a := fun v30 v31 v32 v33 v34 v35 v36 v80 k0_hw10 => k0_hw10.2.2.2.1
theorem k0_idx25_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v33, v80] : Fin 2 → IVec S16 32) a x).toNat < S7x3144.size a := fun v30 v31 v32 v33 v34 v35 v36 v80 k0_hw10 => k0_hw10.2.2.2.2.1
theorem k0_idx27_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v34, v80] : Fin 2 → IVec S16 32) a x).toNat < S7x3144.size a := fun v30 v31 v32 v33 v34 v35 v36 v80 k0_hw10 => k0_hw10.2.2.2.2.2.1
theorem k0_idx29_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v35, v80] : Fin 2 → IVec S16 32) a x).toNat < S7x3144.size a := fun v30 v31 v32 v33 v34 v35 v36 v80 k0_hw10 => k0_hw10.2.2.2.2.2.2.1
theorem k0_idx31_inb : ∀ (v30 : IVec S16 32) (v31 : IVec S16 32) (v32 : IVec S16 32) (v33 : IVec S16 32) (v34 : IVec S16 32) (v35 : IVec S16 32) (v36 : IVec S16 32) (v80 : IVec S16 32) (k0_hw10 : k0_chk10 v30 v31 v32 v33 v34 v35 v36 v80), ∀ a x, ((![v36, v80] : Fin 2 → IVec S16 32) a x).toNat < S7x3144.size a := fun v30 v31 v32 v33 v34 v35 v36 v80 k0_hw10 => k0_hw10.2.2.2.2.2.2.2

def k0_chk18 (v104 : IVec S16 32) : Prop :=
  (∀ a x, ((![v104] : Fin 1 → IVec S16 32) a x).toNat < S8192.size a)
theorem k0_idx32_inb : ∀ (v104 : IVec S16 32) (k0_hw18 : k0_chk18 v104), ∀ a x, ((![v104] : Fin 1 → IVec S16 32) a x).toNat < S8192.size a := fun v104 k0_hw18 => k0_hw18
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29 : BitVec 32 := 0#32
  let c0_i32_37_r8 : BitVec 32 := 0#32
  ![v1.toNat, 0, 0]
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_30 : BitVec 32 := 1#32
  let c0_i32_36_r9 : BitVec 32 := 0#32
  ![v1.toNat, 1, 0]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let c0_i32_36_r10 : BitVec 32 := 0#32
  ![v1.toNat, 2, 0]
def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_32 : BitVec 32 := 3#32
  let c0_i32_36_r11 : BitVec 32 := 0#32
  ![v1.toNat, 3, 0]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_33 : BitVec 32 := 4#32
  let c0_i32_36_r12 : BitVec 32 := 0#32
  ![v1.toNat, 4, 0]
def k0_off15 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_34 : BitVec 32 := 5#32
  let c0_i32_36_r13 : BitVec 32 := 0#32
  ![v1.toNat, 5, 0]
def k0_off16 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_35 : BitVec 32 := 6#32
  let c0_i32_36_r14 : BitVec 32 := 0#32
  ![v1.toNat, 6, 0]
def k0_off17 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let c0_i32_36_r15 : BitVec 32 := 0#32
  ![v1.toNat, 7, 0]
abbrev grid1 : Pipeline.Grid := .none

abbrev stage1_0 : Fin 1 → Memref sig .tc .vmem S32x8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S7x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x7 : Shape := ⟨2, ![100000, 7]⟩
abbrev S2x1600000 : Shape := ⟨2, ![2, 1600000]⟩
abbrev S1600000x4 : Shape := ⟨2, ![1600000, 4]⟩
abbrev S1024x64 : Shape := ⟨2, ![1024, 64]⟩
abbrev S100000 : Shape := ⟨1, ![100000]⟩
abbrev S71x64 : Shape := ⟨2, ![71, 64]⟩
abbrev S64 : Shape := ⟨1, ![64]⟩
abbrev S64x64 : Shape := ⟨2, ![64, 64]⟩
abbrev S_ : Shape := ⟨0, ![]⟩
abbrev S1024x7 : Shape := ⟨2, ![1024, 7]⟩
abbrev S100000x1 : Shape := ⟨2, ![100000, 1]⟩
abbrev S1024x1 : Shape := ⟨2, ![1024, 1]⟩
abbrev S1024x71 : Shape := ⟨2, ![1024, 71]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S1600000x4, .f32⟩
  | .hbm, ⟨3, _⟩ => ⟨S1024x64, .f32⟩
  | .hbm, ⟨4, _⟩ => ⟨S100000, .i32⟩
  | .hbm, ⟨5, _⟩ => ⟨S71x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1024x7, .f32⟩
  | .hbm, ⟨11, _⟩ => ⟨S100000x1, .i32⟩
  | .hbm, ⟨12, _⟩ => ⟨S1024x7, .f32⟩
  | .hbm, ⟨13, _⟩ => ⟨S_, .f32⟩
  | .hbm, ⟨14, _⟩ => ⟨S100000x1, .f32⟩
  | .hbm, ⟨15, _⟩ => ⟨S_, .f32⟩
  | .hbm, ⟨16, _⟩ => ⟨S1024x1, .f32⟩
  | .hbm, ⟨17, _⟩ => ⟨S100000x1, .i32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x7, .f32⟩
  | .hbm, ⟨23, _⟩ => ⟨S1024x7, .f32⟩
  | .hbm, ⟨24, _⟩ => ⟨S1024x71, .f32⟩
  | .hbm, ⟨25, _⟩ => ⟨S1024x64, .f32⟩
  | .hbm, ⟨26, _⟩ => ⟨S1x64, .f32⟩
  | .hbm, ⟨27, _⟩ => ⟨S1024x64, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .i1⟩
  | .hbm, ⟨32, _⟩ => ⟨S_, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S1024x64, .f32⟩
  | .hbm, ⟨37, _⟩ => ⟨S1x64, .f32⟩
  | .hbm, ⟨38, _⟩ => ⟨S1024x64, .f32⟩
  | .hbm, ⟨39, _⟩ => ⟨S1024x64, .f32⟩
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Proof.Setup.lean ====
/-
  What every part of the kernel's run reads: the program as the launch theorem sees it, the resource algebra, the
  buffers, and what one tile of the SparseCore kernel owns (its three scratch buffers, its sixteen DMA semaphores, its
  eight rows of the partial sums).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's library sits in the middle. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers -/

/-- The transposed features, the segment ids, the partial sums. -/
abbrev xLoc (d : Dev nD) : Loc nD τ sig := (SparseCore.T d).loc main_v0
abbrev bLoc (d : Dev nD) : Loc nD τ sig := (SparseCore.T d).loc main_arg4
abbrev pLoc (d : Dev nD) : Loc nD τ sig := (SparseCore.T d).loc main_v1

local notation "xM" => (Memref.whole Cert.KernelIdeal.main_v0_scv : Memref Cert.KernelIdeal.sig Kind.scVector Space.hbm Cert.KernelIdeal.S7x100000 EltTy.f32)
local notation "bM" => (Memref.whole Cert.KernelIdeal.main_arg4_scv : Memref Cert.KernelIdeal.sig Kind.scVector Space.hbm Cert.KernelIdeal.S100000 EltTy.i32)
local notation "pM" => (Memref.whole Cert.KernelIdeal.main_v1_scv : Memref Cert.KernelIdeal.sig Kind.scVector Space.hbm Cert.KernelIdeal.S32x8x1024 EltTy.f32)

/-! ## Elements by their coordinates -/

/-- The element of a rank-one shape at coordinate `i`; -/
def at1 {n : ℕ} (i : ℕ) (h : i < n) : (⟨1, ![n]⟩ : Shape).Idx := fun | 0 => ⟨i, h⟩
/-- of a rank-two shape; -/
def at2 {n k : ℕ} (i j : ℕ) (h : i < n) (h' : j < k) : (⟨2, ![n, k]⟩ : Shape).Idx := fun | 0 => ⟨i, h⟩ | 1 => ⟨j, h'⟩
/-- of a rank-three shape. -/
def at3 {n k l : ℕ} (i j r : ℕ) (h : i < n) (h' : j < k) (h'' : r < l) : (⟨3, ![n, k, l]⟩ : Shape).Idx := fun | 0 => ⟨i, h⟩ | 1 => ⟨j, h'⟩ | 2 => ⟨r, h''⟩

/-! ## One tile -/

section Tile

variable (d : Dev nD) (L : grid0.Coords)

abbrev cV (L : grid0.Coords) : Fin τ.nSC := (L 0).castLE hcore0
abbrev jV (L : grid0.Coords) : Fin τ.nSub := (L 1).castLE hsub0

/-- The tile's number. -/
def wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

/-- The tile's DMA semaphores, in the order it uses them. -/
def semK : Fin 16 → DmaSem sig :=
  ![cc0_scoped0.sem, cc0_scoped1.sem, cc0_scoped2.sem, cc0_scoped3.sem, cc0_scoped4.sem, cc0_scoped5.sem, cc0_scoped6.sem, cc0_scoped7.sem,
    cc0_scoped8.sem, cc0_scoped9.sem, cc0_scoped10.sem, cc0_scoped11.sem, cc0_scoped12.sem, cc0_scoped13.sem, cc0_scoped14.sem, cc0_scoped15.sem]

theorem semK_inj : Function.Injective semK := by decide
theorem semK_scoped : ∀ k, (SemLoc.dma (semK k) : SemLoc sig).isScoped .scVector = true := by decide

theorem bigSep_sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

theorem bigSep_eight (Φ : Fin 8 → sProp 𝕄) : bigSep Finset.univ Φ
    = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  iterate 7 rw [SparseCore.bigSep_insert' (by decide)]
  rw [bigSep_singleton]

abbrev cellK (k : Fin 16) : GSem nD τ sig := (V d (cV L) (jV L), .dma (semK k))

/-- The other semaphores of the tile. -/
def restSems : Finset (GSem nD τ sig) := ownCells (V d (cV L) (jV L)) \ Finset.univ.image (cellK d L)

theorem ownSems0_V :
    (ownSems0 (V d (cV L) (jV L)) : sProp 𝕄)
      = iprop((bigSep Finset.univ fun k : Fin 16 => semVal (cellK d L k) 0) ∗ bigSep (restSems d L) fun g => semVal g 0) := by
  unfold SparseCore.Cfg.ownSems0
  have hsub : Finset.univ.image (cellK d L) ⊆ ownCells (V d (cV L) (jV L)) := fun g hg => by
    obtain ⟨k, -, rfl⟩ := Finset.mem_image.mp hg
    exact (mem_ownCells (g := cellK d L k)).mpr ⟨rfl, semK_scoped k⟩
  rw [SparseCore.bigSep_sdiff_split' hsub, bigSep_image_of_injOn (f := cellK d L) (s := Finset.univ)
    (fun a _ b _ h => semK_inj (SemLoc.dma.inj (Prod.mk.inj h).2))]
  rfl

abbrev devRef (b : Ref sig .scVector) : DevRef τ sig := (Proc.scVector (cV L) (jV L)).devRef b

theorem devRef_ne {a b : Ref sig .scVector} (h : a ≠ b) : devRef L a ≠ devRef L b := fun e => h (Proc.devRef_injective _ e)

/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (devRef L cc0_scratch0)).erase (devRef L cc0_scratch1)).erase (devRef L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := devRef L cc0_scratch0) rfl)).trans ?_
  rw [SparseCore.bigSep_erase' (Finset.mem_erase.mpr ⟨devRef_ne L (by decide),
      SparseCore.Cfg.mem_ownRefs_of_owner (p := Proc.scVector (cV L) (jV L)) (b := devRef L cc0_scratch1) rfl⟩),
    SparseCore.bigSep_erase' (Finset.mem_erase.mpr ⟨devRef_ne L (by decide), Finset.mem_erase.mpr ⟨devRef_ne L (by decide),
      SparseCore.Cfg.mem_ownRefs_of_owner (p := Proc.scVector (cV L) (jV L)) (b := devRef L cc0_scratch2) rfl⟩⟩)]

end Tile

end Cert.Proof.Seg

end
-- ==== Proof.Value.lean ====
/-
  What a tile leaves in its accumulator, as a function of the transposed features and of the segment ids alone: per trip
  and per lane one node, whose seven features and a one are added to row `seg` of the eight sums.
-/
module

public import proofs.«01_k».proof.Proof.Setup

@[expose] public section

noncomputable section

namespace Cert.Proof.Seg

open Cert.KernelIdeal Cert.KernelIdeal.Gen

open Idealize.ShloMosaic

variable {F : FTy → Type} [FloatOps F]

/-! ## The specification -/

/-- Feature `f` of node `n`; row 7 counts. -/
def xg (xt : S7x100000.Idx → F .f32) (f n : ℕ) : F .f32 :=
  if h : f < 7 ∧ n < 100000 then xt (at2 f n h.1 h.2) else Scalar.ofBits .f32 0x3F800000#32

/-- The segment of node `n`. -/
def bg (bt : S100000.Idx → BitVec 32) (n : ℕ) : ℕ := if h : n < 100000 then (bt (at1 n h)).toNat else 0

/-- One step of tile `w`: node `196 k + j` of every lane `k` that has one. -/
def stepA (xt : S7x100000.Idx → F .f32) (bt : S100000.Idx → BitVec 32) (w j : ℕ) (φ : ℕ → ℕ → F .f32) (f s : ℕ) : F .f32 :=
  (List.finRange 16).foldl (fun a k => if k.val * 196 + j < 3125 ∧ bg bt (w * 3125 + (k.val * 196 + j)) = s
    then FloatOps.idxAddf a (xg xt f (w * 3125 + (k.val * 196 + j))) else a) (φ f s)

/-- The sums of tile `w` after `t` trips. -/
def accT (xt : S7x100000.Idx → F .f32) (bt : S100000.Idx → BitVec 32) (w : ℕ) : ℕ → ℕ → ℕ → F .f32
  | 0 => fun _ _ => Scalar.ofBits .f32 0x00000000#32
  | t + 1 => stepA xt bt w (t + 98) (stepA xt bt w t (accT xt bt w t))

/-- The thirty-two tiles' sums. -/
def partsOf (xt : S7x100000.Idx → F .f32) (bt : S100000.Idx → BitVec 32) : S32x8x1024.Idx → F .f32 :=
  fun i => accT xt bt (i 0).val 98 (i 1).val (i 2).val

/-- The accumulator's contents at sums `φ`: row after row. -/
def accOf (φ : ℕ → ℕ → F .f32) : S8192.Idx → F .f32 := fun j => φ ((j 0).val / 1024) ((j 0).val % 1024)

/-! ## One scatter -/

abbrev lane (k : Fin 16) : S16.Idx := Shape.ofLane (d := ![16]) k

theorem lane_surj (x : S16.Idx) : ∃ k, x = lane k := ⟨x 0, funext fun a => by rw [Fin.eq_zero a]; rfl⟩

/-- What a masked scatter adds to cell `s` of a row, lane by lane. -/
def foldRow (mask : IVec S16 1) (seg : IVec S16 32) (v : S16.Idx → F .f32) (s : ℕ) (a : F .f32) : F .f32 :=
  (List.finRange 16).foldl (fun a k => if mask (lane k) = 1 ∧ (seg (lane k)).toNat = s then FloatOps.idxAddf a (v (lane k)) else a) a

theorem storeIdx_apply (g : Vec F S8192 .f32) (idx : IVec S16 32) (v : Vec F S16 .f32) (mask : IVec S16 1)
    (h : ∀ (a : Fin S8192.rank) (x : S16.Idx), ((![idx] : Fin 1 → IVec S16 32) a x).toNat < S8192.size a) (j : S8192.Idx) :
    storeIdx (F := F) (s := S8192) (d := ![16]) (e := .f32) g ![idx] v mask true h j
      = (List.finRange 16).foldl (fun a k => if mask (lane k) = 1 ∧ (idx (lane k)).toNat = (j 0).val then FloatOps.idxAddf a (v (lane k)) else a) (g j) := by
  unfold storeIdx
  show (List.foldl _ g (List.finRange 16)) j = _
  generalize List.finRange 16 = l
  induction l generalizing g with
  | nil => rfl
  | cons k l ih =>
    refine (ih _).trans ?_
    refine congrArg (fun a => List.foldl _ a l) ?_
    by_cases hm : mask (lane k) = 1
    · have hm' : mask (Shape.ofLane (d := ![16]) k) = 1 := hm
      simp only [hm', if_true, true_and]
      by_cases hj : (idx (lane k)).toNat = (j 0).val
      · have e : idxAt (s := S8192) (![idx] : Fin 1 → IVec S16 32) h (Shape.ofLane (d := ![16]) k) = j := by
          funext a; rw [Fin.eq_zero a]; exact Fin.ext hj
        rw [e, if_pos fun _ => rfl, if_pos hj]; rfl
      · rw [if_neg hj, if_neg]
        intro hall; exact hj (hall 0).symm
    · have hm' : ¬ mask (Shape.ofLane (d := ![16]) k) = 1 := hm
      simp only [hm', hm, if_false, false_and]

/-- Row `r` of the sums, stepped. -/
def updRow (r : ℕ) (mask : IVec S16 1) (seg : IVec S16 32) (v : S16.Idx → F .f32) (φ : ℕ → ℕ → F .f32) (f s : ℕ) : F .f32 :=
  if f = r then foldRow mask seg v s (φ f s) else φ f s

theorem storeIdx_accOf (r : ℕ) (hr : r < 8) (φ : ℕ → ℕ → F .f32) (idx seg : IVec S16 32) (v : Vec F S16 .f32) (mask : IVec S16 1)
    (hseg : ∀ k, (seg (lane k)).toNat < 1024) (hidx : ∀ k, (idx (lane k)).toNat = (seg (lane k)).toNat + r * 1024)
    (h : ∀ (a : Fin S8192.rank) (x : S16.Idx), ((![idx] : Fin 1 → IVec S16 32) a x).toNat < S8192.size a) :
    storeIdx (F := F) (s := S8192) (d := ![16]) (e := .f32) (accOf φ) ![idx] v mask true h = accOf (updRow r mask seg v φ) := by
  funext j
  rw [storeIdx_apply]
  have hj : (j 0).val < 8192 := (j 0).isLt
  unfold accOf updRow foldRow
  generalize φ ((j 0).val / 1024) ((j 0).val % 1024) = a
  by_cases hf : (j 0).val / 1024 = r
  · rw [if_pos hf]
    congr 1; funext a k
    have := hseg k; have := hidx k
    refine if_congr (and_congr Iff.rfl ?_) rfl rfl
    omega
  · rw [if_neg hf]
    generalize List.finRange 16 = l
    induction l with
    | nil => rfl
    | cons k l ih =>
      have := hseg k; have := hidx k
      rw [List.foldl_cons, if_neg (by rintro ⟨_, h2⟩; omega), ih]

/-- All eight rows, in the order the kernel scatters them. -/
abbrev updRows (mask : IVec S16 1) (seg : IVec S16 32) (v : ℕ → S16.Idx → F .f32) (φ : ℕ → ℕ → F .f32) : ℕ → ℕ → F .f32 :=
  updRow 6 mask seg (v 6) (updRow 5 mask seg (v 5) (updRow 4 mask seg (v 4) (updRow 3 mask seg (v 3)
      (updRow 2 mask seg (v 2) (updRow 1 mask seg (v 1) (updRow 0 mask seg (v 0) (updRow 7 mask seg (v 7) φ)))))))

theorem updRows_apply (mask : IVec S16 1) (seg : IVec S16 32) (v : ℕ → S16.Idx → F .f32) (φ : ℕ → ℕ → F .f32) (f s : ℕ) (hf : f < 8) :
    updRows mask seg v φ f s = foldRow mask seg (v f) s (φ f s) := by
  simp only [updRows, updRow]
  interval_cases f <;> simp

theorem accOf_congr (φ ψ : ℕ → ℕ → F .f32) (h : ∀ f s, f < 8 → φ f s = ψ f s) : accOf φ = accOf ψ := by
  funext j
  have hj : (j 0).val < 8192 := (j 0).isLt
  exact h _ _ (by omega)

theorem stepA_eq (xt : S7x100000.Idx → F .f32) (bt : S100000.Idx → BitVec 32) (w j : ℕ) (φ : ℕ → ℕ → F .f32)
    (mask : IVec S16 1) (seg : IVec S16 32) (v : S16.Idx → F .f32) (f s : ℕ)
    (hm : ∀ k : Fin 16, mask (lane k) = 1 ↔ k.val * 196 + j < 3125)
    (hs : ∀ k : Fin 16, k.val * 196 + j < 3125 → (seg (lane k)).toNat = bg bt (w * 3125 + (k.val * 196 + j)))
    (hv : ∀ k : Fin 16, k.val * 196 + j < 3125 → v (lane k) = xg xt f (w * 3125 + (k.val * 196 + j))) :
    stepA xt bt w j φ f s = foldRow mask seg v s (φ f s) := by
  unfold stepA foldRow
  congr 1; funext a k
  by_cases hk : k.val * 196 + j < 3125
  · rw [hs k hk, hv k hk]
    exact if_congr (and_congr (hm k).symm Iff.rfl) rfl rfl
  · rw [if_neg (fun h => hk h.1), if_neg (fun h => hk ((hm k).mp h.1))]

/-! ## The kernel's words -/

theorem pay23_lane (k : Fin 16) : k0_pay23 (lane k) = BitVec.ofNat 32 (k.val * 196) := by
  revert k; decide +kernel

/-- The first node of the window tile `w` copies. -/
def b0 (w : ℕ) : ℕ := min (w * 3125 / 8 * 8) 96856

theorem b0_le (w : ℕ) : b0 w ≤ w * 3125 := by unfold b0; omega
theorem b0_ge (w : ℕ) (hw : w < 32) : w * 3125 + 3125 ≤ b0 w + 3144 := by unfold b0; omega
theorem b0_in (w : ℕ) : b0 w + 3144 ≤ 100000 := by unfold b0; omega

theorem off1_eq : ∀ L, k0_off1 L = ![0, b0 (wid L)] := by decide +kernel
theorem off2_eq : ∀ L, k0_off2 L = ![1, b0 (wid L)] := by decide +kernel
theorem off3_eq : ∀ L, k0_off3 L = ![2, b0 (wid L)] := by decide +kernel
theorem off4_eq : ∀ L, k0_off4 L = ![3, b0 (wid L)] := by decide +kernel
theorem off5_eq : ∀ L, k0_off5 L = ![4, b0 (wid L)] := by decide +kernel
theorem off6_eq : ∀ L, k0_off6 L = ![5, b0 (wid L)] := by decide +kernel
theorem off7_eq : ∀ L, k0_off7 L = ![6, b0 (wid L)] := by decide +kernel
theorem off8_eq : ∀ L, k0_off8 L = ![b0 (wid L)] := by decide +kernel
theorem off9_eq : ∀ t, k0_off9 t = ![16 * t.val] := by decide +kernel
theorem off10_eq : ∀ L, k0_off10 L = ![wid L, 0, 0] := by decide +kernel
theorem off11_eq : ∀ L, k0_off11 L = ![wid L, 1, 0] := by decide +kernel
theorem off12_eq : ∀ L, k0_off12 L = ![wid L, 2, 0] := by decide +kernel
theorem off13_eq : ∀ L, k0_off13 L = ![wid L, 3, 0] := by decide +kernel
theorem off14_eq : ∀ L, k0_off14 L = ![wid L, 4, 0] := by decide +kernel
theorem off15_eq : ∀ L, k0_off15 L = ![wid L, 5, 0] := by decide +kernel
theorem off16_eq : ∀ L, k0_off16 L = ![wid L, 6, 0] := by decide +kernel
theorem off17_eq : ∀ L, k0_off17 L = ![wid L, 7, 0] := by decide +kernel

theorem slt_word : ∀ n : Fin 3200, IntOp.cmpi .slt (BitVec.ofNat 32 n.val) 3125#32 = 1 ↔ n.val < 3125 := by decide +kernel
theorem min_word : ∀ n : Fin 3200, IntOp.minsi (BitVec.ofNat 32 n.val) 3124#32 = BitVec.ofNat 32 (min n.val 3124) := by decide +kernel

theorem pay1_lane (t : Fin k0_t2_loop.trips) (k : Fin 16) :
    k0_pay1 k0_pay23 0#32 1#32 t (lane k) = BitVec.ofNat 32 (k.val * 196 + t.val) := by
  show k0_pay23 (lane k) + (0#32 + (0#32 + BitVec.ofNat 32 t.val * 1#32) * 1#32) = _
  rw [pay23_lane]; apply BitVec.eq_of_toNat_eq; simp

theorem pay12_lane (t : Fin k0_t2_loop.trips) (k : Fin 16) :
    k0_pay12 k0_pay23 (Scalar.addi 0#32 (Scalar.muli (Scf.iv 0#32 1#32 t) 1#32)) (lane k) = BitVec.ofNat 32 (k.val * 196 + (t.val + 98)) := by
  show k0_pay23 (lane k) + ((0#32 + (0#32 + BitVec.ofNat 32 t.val * 1#32) * 1#32) + 98#32) = _
  rw [pay23_lane]; apply BitVec.eq_of_toNat_eq; simp

theorem node_lt (t : Fin k0_t2_loop.trips) (k : Fin 16) : k.val * 196 + (t.val + 98) < 3200 := by
  have h1 : t.val < 98 := lt_of_lt_of_eq t.isLt (by decide +kernel)
  omega

theorem pay2_lane (t : Fin k0_t2_loop.trips) (k : Fin 16) :
    k0_pay2 k0_pay23 0#32 1#32 t (lane k) = 1 ↔ k.val * 196 + t.val < 3125 := by
  have := node_lt t k
  show IntOp.cmpi .slt (k0_pay1 k0_pay23 0#32 1#32 t (lane k)) 3125#32 = 1 ↔ _
  rw [pay1_lane]; exact slt_word ⟨k.val * 196 + t.val, by omega⟩

theorem pay13_lane (t : Fin k0_t2_loop.trips) (k : Fin 16) :
    k0_pay13 k0_pay23 (Scalar.addi 0#32 (Scalar.muli (Scf.iv 0#32 1#32 t) 1#32)) (lane k) = 1 ↔ k.val * 196 + (t.val + 98) < 3125 := by
  have := node_lt t k
  show IntOp.cmpi .slt (k0_pay12 k0_pay23 (Scalar.addi 0#32 (Scalar.muli (Scf.iv 0#32 1#32 t) 1#32)) (lane k)) 3125#32 = 1 ↔ _
  rw [pay12_lane]; exact slt_word ⟨k.val * 196 + (t.val + 98), by omega⟩

theorem pay3_lane (v23 : BitVec 32) (o : ℕ) (ho : v23.toNat = o) (ho' : o < 3000) (t : Fin k0_t2_loop.trips) (k : Fin 16) :
    (k0_pay3 v23 k0_pay23 0#32 1#32 t (lane k)).toNat = min (k.val * 196 + t.val) 3124 + o := by
  have := node_lt t k
  show (IntOp.minsi (k0_pay1 k0_pay23 0#32 1#32 t (lane k)) 3124#32 + v23).toNat = _
  rw [pay1_lane, min_word ⟨k.val * 196 + t.val, by omega⟩, BitVec.toNat_add, ho, BitVec.toNat_ofNat]
  simp only; omega

theorem pay14_lane (v23 : BitVec 32) (o : ℕ) (ho : v23.toNat = o) (ho' : o < 3000) (t : Fin k0_t2_loop.trips) (k : Fin 16) :
    (k0_pay14 v23 k0_pay23 (Scalar.addi 0#32 (Scalar.muli (Scf.iv 0#32 1#32 t) 1#32)) (lane k)).toNat = min (k.val * 196 + (t.val + 98)) 3124 + o := by
  have := node_lt t k
  show (IntOp.minsi (k0_pay12 k0_pay23 (Scalar.addi 0#32 (Scalar.muli (Scf.iv 0#32 1#32 t) 1#32)) (lane k)) 3124#32 + v23).toNat = _
  rw [pay12_lane, min_word ⟨k.val * 196 + (t.val + 98), by omega⟩, BitVec.toNat_add, ho, BitVec.toNat_ofNat]
  simp only; omega

end Cert.Proof.Seg

end
-- ==== Proof.Step.lean ====
/-
  One trip of the kernel's main loop: two steps, each a gather of sixteen segment ids, seven gathers of features and
  eight scatters, taking the accumulator from the sums after `t` trips to those after `t + 1`.
-/
module

public import proofs.«01_k».proof.Proof.Value

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xM" => (Memref.whole Cert.KernelIdeal.main_v0_scv : Memref Cert.KernelIdeal.sig Kind.scVector Space.hbm Cert.KernelIdeal.S7x100000 EltTy.f32)
local notation "bM" => (Memref.whole Cert.KernelIdeal.main_arg4_scv : Memref Cert.KernelIdeal.sig Kind.scVector Space.hbm Cert.KernelIdeal.S100000 EltTy.i32)
local notation "pM" => (Memref.whole Cert.KernelIdeal.main_v1_scv : Memref Cert.KernelIdeal.sig Kind.scVector Space.hbm Cert.KernelIdeal.S32x8x1024 EltTy.f32)
local notation "xvM" => (Memref.whole Cert.KernelIdeal.cc0_scratch0 : Memref Cert.KernelIdeal.sig Kind.scVector Space.vmem Cert.KernelIdeal.S7x3144 EltTy.f32)
local notation "bvM" => (Memref.whole Cert.KernelIdeal.cc0_scratch1 : Memref Cert.KernelIdeal.sig Kind.scVector Space.vmem Cert.KernelIdeal.S3144 EltTy.i32)
local notation "acM" => (Memref.whole Cert.KernelIdeal.cc0_scratch2 : Memref Cert.KernelIdeal.sig Kind.scVector Space.vmem Cert.KernelIdeal.S8192 EltTy.f32)

variable (d : Dev nD) (L : grid0.Coords)

/-! ## The three scratch buffers, held -/

abbrev xvPts (X : S7x3144.Idx → F .f32) : sProp 𝕄 := (xvM).view.loc (V d (cV L) (jV L)) ↦{fullShare} X
abbrev bvPts (B : S3144.Idx → BitVec 32) : sProp 𝕄 := (bvM).view.loc (V d (cV L) (jV L)) ↦{fullShare} B
abbrev acPts (g : S8192.Idx → F .f32) : sProp 𝕄 := (acM).view.loc (V d (cV L) (jV L)) ↦{fullShare} g

/-- The window of features tile `w` copies in; -/
def xvOf (xt : S7x100000.Idx → F .f32) (w : ℕ) : S7x3144.Idx → F .f32 := fun x => xg xt (x 0).val (b0 w + (x 1).val)
/-- its window of segment ids; -/
def bvOf (bt : S100000.Idx → BitVec 32) (w : ℕ) : S3144.Idx → BitVec 32 :=
  fun x => if h : b0 w + (x 0).val < 100000 then bt (at1 (b0 w + (x 0).val) h) else 0#32
/-- the features gathered at window positions `v`; -/
def valsAt (xt : S7x100000.Idx → F .f32) (w : ℕ) (v : IVec S16 32) (f : ℕ) : S16.Idx → F .f32 := fun x => xg xt f (b0 w + (v x).toNat)
/-- the segment ids gathered there. -/
def segAt (bt : S100000.Idx → BitVec 32) (w : ℕ) (v : IVec S16 32) : IVec S16 32 :=
  fun x => if h : b0 w + (v x).toNat < 100000 then bt (at1 (b0 w + (v x).toNat) h) else 0#32

theorem segAt_toNat (bt : S100000.Idx → BitVec 32) (w : ℕ) (v : IVec S16 32) (x : S16.Idx) :
    (segAt bt w v x).toNat = bg bt (b0 w + (v x).toNat) := by
  unfold segAt bg; split <;> rfl

theorem valsAt_seven (xt : S7x100000.Idx → F .f32) (w : ℕ) (v : IVec S16 32) : valsAt xt w v 7 = k0_pay24 := by
  funext x; unfold valsAt xg; rw [dif_neg (by omega)]; rfl

theorem bg_lt (bt : S100000.Idx → BitVec 32) (hbt : ∀ i, (bt i).toNat < 1024) (n : ℕ) : bg bt n < 1024 := by
  unfold bg; split
  · exact hbt _
  · omega

theorem gather_bv {v : IVec S16 32} {h : ∀ a x, ((![v] : Fin 1 → IVec S16 32) a x).toNat < S3144.size a} {hl : (bvM).view.Loads}
    {k : Vec F S16 .i32 → Prog (TpuEff nD τ sig (Elt F) Λ₀ (.scVector (cV L) (jV L))) PUnit} {Q : PUnit → sProp 𝕄} (bt : S100000.Idx → BitVec 32) (w : ℕ) :
    (bvPts (F := F) d L (bvOf bt w))
      ⊢ iprop((bvPts (F := F) d L (bvOf bt w) -∗ wp frame (wpE (defs₀ (F := F)) 𝒱₀ (V d (cV L) (jV L)) none) Set.univ (k (segAt bt w v)) Q)
        -∗ wp frame (wpE (defs₀ (F := F)) 𝒱₀ (V d (cV L) (jV L)) none) Set.univ (SparseCore.vectorLoadIdx bvM ![v] h hl >>= k) Q) := by
  have := SparseCore.wp_vectorLoadIdx (defs := defs₀ (F := F)) 𝒱₀ (V d (cV L) (jV L)) none Set.univ (Q := Q) (base := bvM) (idxs := ![v]) (h := h) (hl := hl) (k := k)
    (S := Finset.univ) (q := fullShare) (f := bvOf bt w) (Finset.subset_univ _)
  rw [Memref.read_access_whole] at this
  exact this

theorem gather_xv {c v : IVec S16 32} {h : ∀ a x, ((![c, v] : Fin 2 → IVec S16 32) a x).toNat < S7x3144.size a} {hl : (xvM).view.Loads}
    {k : Vec F S16 .f32 → Prog (TpuEff nD τ sig (Elt F) Λ₀ (.scVector (cV L) (jV L))) PUnit} {Q : PUnit → sProp 𝕄}
    (xt : S7x100000.Idx → F .f32) (w r : ℕ) (hc : ∀ x, (c x).toNat = r) :
    (xvPts (F := F) d L (xvOf xt w))
      ⊢ iprop((xvPts (F := F) d L (xvOf xt w) -∗ wp frame (wpE (defs₀ (F := F)) 𝒱₀ (V d (cV L) (jV L)) none) Set.univ (k (valsAt xt w v r)) Q)
        -∗ wp frame (wpE (defs₀ (F := F)) 𝒱₀ (V d (cV L) (jV L)) none) Set.univ (SparseCore.vectorLoadIdx xvM ![c, v] h hl >>= k) Q) := by
  have := SparseCore.wp_vectorLoadIdx (defs := defs₀ (F := F)) 𝒱₀ (V d (cV L) (jV L)) none Set.univ (Q := Q) (base := xvM) (idxs := ![c, v]) (h := h) (hl := hl) (k := k)
    (S := Finset.univ) (q := fullShare) (f := xvOf xt w) (Finset.subset_univ _)
  rw [Memref.read_access_whole] at this
  have e : loadIdx (F := F) (s := S7x3144) (e := .f32) (xvOf xt w) ![c, v] h = valsAt xt w v r := by
    funext x; show xg xt (c x).toNat (b0 w + (v x).toNat) = _; rw [hc x]; rfl
  rw [e] at this
  exact this

theorem write_ac (f g : S8192.Idx → F .f32) :
    View.write (Elt F) ((Memref.whole Cert.KernelIdeal.cc0_scratch2).access (Rect.whole Cert.KernelIdeal.cc0_scratch2.ty.shape)) f g Finset.univ = g := by
  funext x
  have e : ((Memref.whole Cert.KernelIdeal.cc0_scratch2).access (Rect.whole Cert.KernelIdeal.cc0_scratch2.ty.shape)).emb x = x :=
    Rect.emb_whole_apply _ _
  conv_lhs => rw [← e]
  exact (View.write_emb_of_mem _ _ (Finset.mem_univ x)).trans rfl

theorem scatter_ac {idx seg : IVec S16 32} {v : Vec F S16 .f32} {mask : IVec S16 1} {h : ∀ a x, ((![idx] : Fin 1 → IVec S16 32) a x).toNat < S8192.size a}
    {hs : ((acM).access (.whole S8192)).Stores Finset.univ}
    {k : PUnit → Prog (TpuEff nD τ sig (Elt F) Λ₀ (.scVector (cV L) (jV L))) PUnit} {Q : PUnit → sProp 𝕄} (r : ℕ) (hr : r < 8) (φ : ℕ → ℕ → F .f32)
    (hseg : ∀ k, (seg (lane k)).toNat < 1024) (hidx : ∀ k, (idx (lane k)).toNat = (seg (lane k)).toNat + r * 1024) :
    (acPts d L (accOf φ))
      ⊢ iprop((acPts d L (accOf (updRow r mask seg v φ)) -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx acM ![idx] v mask true h hs >>= k) Q) := by
  have := SparseCore.wp_vectorStoreIdx (defs := defs₀ (F := F)) 𝒱₀ (V d (cV L) (jV L)) none Set.univ (Q := Q) (base := acM) (idxs := ![idx]) (v := v) (mask := mask)
    (add := true) (h := h) (hs := hs) (k := k) (f := accOf φ)
  rw [Memref.read_access_whole, storeIdx_accOf r hr φ idx seg v mask hseg hidx h, Memref.set_access_whole] at this
  rw [write_ac] at this
  exact this

/-! ## The trip -/

theorem step_assume {P : Prop} {dc : Decidable P} {k : PLift P → Prog (TpuEff nD τ sig (Elt F) Λ₀ (.scVector (cV L) (jV L))) PUnit} {Q : PUnit → sProp 𝕄} (h : P) :
    wp frame (wpE (defs₀ (F := F)) 𝒱₀ (V d (cV L) (jV L)) none) Set.univ (k ⟨h⟩) Q
      ⊢ wp frame (wpE (defs₀ (F := F)) 𝒱₀ (V d (cV L) (jV L)) none) Set.univ (Prog.lift (TpuEff.assume P dc) >>= k) Q :=
  wp_assume 𝒱₀ (V d (cV L) (jV L)) none Set.univ h

theorem chk_row {idx seg : IVec S16 32} (r : ℕ) (hr : r < 8) (hseg : ∀ k, (seg (lane k)).toNat < 1024)
    (hidx : ∀ k, (idx (lane k)).toNat = (seg (lane k)).toNat + r * 1024) :
    ∀ (a : Fin 1) (x : S16.Idx), ((![idx] : Fin 1 → IVec S16 32) a x).toNat < S8192.size a := by
  intro a x
  obtain ⟨k, rfl⟩ := lane_surj x
  rw [Fin.eq_zero a]
  show (idx (lane k)).toNat < 8192
  have := hseg k; have := hidx k
  omega

theorem chk_win {v : IVec S16 32} (hv : ∀ k, (v (lane k)).toNat < 3144) :
    ∀ (a : Fin 1) (x : S16.Idx), ((![v] : Fin 1 → IVec S16 32) a x).toNat < S3144.size a := by
  intro a x
  obtain ⟨k, rfl⟩ := lane_surj x
  rw [Fin.eq_zero a]
  exact hv k

theorem chk_xwin {c v : IVec S16 32} (hc : ∀ x, (c x).toNat < 7) (hv : ∀ k, (v (lane k)).toNat < 3144) :
    ∀ (a : Fin 2) (x : S16.Idx), ((![c, v] : Fin 2 → IVec S16 32) a x).toNat < S7x3144.size a := by
  intro a x
  obtain ⟨k, rfl⟩ := lane_surj x
  match a with
  | 0 => exact hc _
  | 1 => exact hv k

theorem idx_row (seg : IVec S16 32) (hseg : ∀ k, (seg (lane k)).toNat < 1024) (r : ℕ) (hr : r < 8) (c : BitVec 32) (hc : c.toNat = r * 1024) (k : Fin 16) :
    (addi seg (broadcast S16 c) (lane k)).toNat = (seg (lane k)).toNat + r * 1024 := by
  show (seg (lane k) + c).toNat = _
  have := hseg k
  rw [BitVec.toNat_add, hc]; omega

/-- The held state at sums `φ`. -/
abbrev stPts (xt : S7x100000.Idx → F .f32) (bt : S100000.Idx → BitVec 32) (φ : ℕ → ℕ → F .f32) : sProp 𝕄 :=
  iprop(xvPts d L (xvOf xt (wid L)) ∗ bvPts d L (bvOf bt (wid L)) ∗ acPts d L (accOf φ))

set_option pp.maxSteps 600 in
set_option maxHeartbeats 4000000 in
theorem t2_step (xt : S7x100000.Idx → F .f32) (bt : S100000.Idx → BitVec 32) (hbt : ∀ i, (bt i).toNat < 1024)
    (v23 : BitVec 32) (hv23 : v23.toNat = wid L * 3125 - b0 (wid L)) (t : Fin k0_t2_loop.trips) (φ : ℕ → ℕ → F .f32) :
    stPts d L xt bt φ
      ⊢ wp frame (wpE (defs₀ (F := F)) 𝒱₀ (V d (cV L) (jV L)) none) Set.univ
          (k0_t2_body L xM (Memref.isWhole_whole _) bM (Memref.isWhole_whole _) pM (Memref.isWhole_whole _)
            xvM (Memref.isWhole_whole _) bvM (Memref.isWhole_whole _) acM (Memref.isWhole_whole _)
            cc0_scoped0 cc0_scoped1 cc0_scoped2 cc0_scoped3 cc0_scoped4 cc0_scoped5 cc0_scoped6 cc0_scoped7
            cc0_scoped8 cc0_scoped9 cc0_scoped10 cc0_scoped11 cc0_scoped12 cc0_scoped13 cc0_scoped14 cc0_scoped15
            v23 k0_pay23 k0_pay24 k0_pay25 k0_pay26 k0_pay27 k0_pay28 k0_pay29 k0_pay30 k0_pay31 0#32 t ⟨⟩)
          fun _ => stPts d L xt bt (stepA xt bt (wid L) (t.val + 98) (stepA xt bt (wid L) t.val φ)) := by
  have hw := wid_lt L
  have hb1 := b0_le (wid L)
  have hb2 := b0_ge (wid L) hw
  have hb3 := b0_in (wid L)
  have hO : wid L * 3125 - b0 (wid L) < 3000 := by omega
  have hpos := pay3_lane v23 _ hv23 hO t
  have hpos' := pay14_lane v23 _ hv23 hO t
  have hwin : ∀ k, (k0_pay3 v23 k0_pay23 0#32 1#32 t (lane k)).toNat < 3144 := fun k => by have := hpos k; omega
  have hseg : ∀ k, (segAt bt (wid L) (k0_pay3 v23 k0_pay23 0#32 1#32 t) (lane k)).toNat < 1024 := fun k => by rw [segAt_toNat]; exact bg_lt bt hbt _
  have hchk1 : k0_chk1 k0_pay25 k0_pay26 k0_pay27 k0_pay28 k0_pay29 k0_pay30 k0_pay31 (k0_pay3 v23 k0_pay23 0#32 1#32 t) :=
    ⟨chk_win hwin, chk_xwin (fun _ => Nat.le_of_ble_eq_true rfl) hwin, chk_xwin (fun _ => Nat.le_of_ble_eq_true rfl) hwin, chk_xwin (fun _ => Nat.le_of_ble_eq_true rfl) hwin,
      chk_xwin (fun _ => Nat.le_of_ble_eq_true rfl) hwin, chk_xwin (fun _ => Nat.le_of_ble_eq_true rfl) hwin, chk_xwin (fun _ => Nat.le_of_ble_eq_true rfl) hwin, chk_xwin (fun _ => Nat.le_of_ble_eq_true rfl) hwin⟩
  have hmask := pay2_lane t
  have hmask' := pay13_lane t
  iintro ⟨Hx, Hb, Ha⟩
  unfold k0_t2_body
  simp only [k0_part1_eq_skeleton, k0_part2_eq_skeleton]
  unfold k0_part1_skel k0_part2_skel
  simp only [bind_assoc, pure_bind]
  have hwin' : ∀ k, ((k0_pay14 v23 k0_pay23 (Scalar.addi 0#32 (Scalar.muli (Scf.iv 0#32 1#32 t) 1#32))) (lane k)).toNat < 3144 := fun k => by have := hpos' k; omega
  have hseg' : ∀ k, (segAt bt (wid L) (k0_pay14 v23 k0_pay23 (Scalar.addi 0#32 (Scalar.muli (Scf.iv 0#32 1#32 t) 1#32))) (lane k)).toNat < 1024 := fun k => by rw [segAt_toNat]; exact bg_lt bt hbt _
  have hchk10 : k0_chk10 k0_pay25 k0_pay26 k0_pay27 k0_pay28 k0_pay29 k0_pay30 k0_pay31 (k0_pay14 v23 k0_pay23 (Scalar.addi 0#32 (Scalar.muli (Scf.iv 0#32 1#32 t) 1#32))) :=
    ⟨chk_win hwin', chk_xwin (fun _ => Nat.le_of_ble_eq_true rfl) hwin', chk_xwin (fun _ => Nat.le_of_ble_eq_true rfl) hwin', chk_xwin (fun _ => Nat.le_of_ble_eq_true rfl) hwin',
      chk_xwin (fun _ => Nat.le_of_ble_eq_true rfl) hwin', chk_xwin (fun _ => Nat.le_of_ble_eq_true rfl) hwin', chk_xwin (fun _ => Nat.le_of_ble_eq_true rfl) hwin', chk_xwin (fun _ => Nat.le_of_ble_eq_true rfl) hwin'⟩
  iapply (step_assume d L hchk1)
  iapply (gather_bv d L bt (wid L)) $$ Hb; iintro Hb
  iapply (step_assume d L (chk_row 7 (by decide) hseg (idx_row _ hseg 7 (by decide) 7168#32 (by decide))))
  iapply (scatter_ac d L 7 (by decide) _ hseg (idx_row _ hseg 7 (by decide) 7168#32 (by decide))) $$ Ha; iintro Ha
  iapply (gather_xv d L xt (wid L) 0 (fun _ => rfl)) $$ Hx; iintro Hx
  iapply (step_assume d L (chk_row 0 (by decide) hseg (idx_row _ hseg 0 (by decide) 0#32 (by decide))))
  iapply (scatter_ac d L 0 (by decide) _ hseg (idx_row _ hseg 0 (by decide) 0#32 (by decide))) $$ Ha; iintro Ha
  iapply (gather_xv d L xt (wid L) 1 (fun _ => rfl)) $$ Hx; iintro Hx
  iapply (step_assume d L (chk_row 1 (by decide) hseg (idx_row _ hseg 1 (by decide) 1024#32 (by decide))))
  iapply (scatter_ac d L 1 (by decide) _ hseg (idx_row _ hseg 1 (by decide) 1024#32 (by decide))) $$ Ha; iintro Ha
  iapply (gather_xv d L xt (wid L) 2 (fun _ => rfl)) $$ Hx; iintro Hx
  iapply (step_assume d L (chk_row 2 (by decide) hseg (idx_row _ hseg 2 (by decide) 2048#32 (by decide))))
  iapply (scatter_ac d L 2 (by decide) _ hseg (idx_row _ hseg 2 (by decide) 2048#32 (by decide))) $$ Ha; iintro Ha
  iapply (gather_xv d L xt (wid L) 3 (fun _ => rfl)) $$ Hx; iintro Hx
  iapply (step_assume d L (chk_row 3 (by decide) hseg (idx_row _ hseg 3 (by decide) 3072#32 (by decide))))
  iapply (scatter_ac d L 3 (by decide) _ hseg (idx_row _ hseg 3 (by decide) 3072#32 (by decide))) $$ Ha; iintro Ha
  iapply (gather_xv d L xt (wid L) 4 (fun _ => rfl)) $$ Hx; iintro Hx
  iapply (step_assume d L (chk_row 4 (by decide) hseg (idx_row _ hseg 4 (by decide) 4096#32 (by decide))))
  iapply (scatter_ac d L 4 (by decide) _ hseg (idx_row _ hseg 4 (by decide) 4096#32 (by decide))) $$ Ha; iintro Ha
  iapply (gather_xv d L xt (wid L) 5 (fun _ => rfl)) $$ Hx; iintro Hx
  iapply (step_assume d L (chk_row 5 (by decide) hseg (idx_row _ hseg 5 (by decide) 5120#32 (by decide))))
  iapply (scatter_ac d L 5 (by decide) _ hseg (idx_row _ hseg 5 (by decide) 5120#32 (by decide))) $$ Ha; iintro Ha
  iapply (gather_xv d L xt (wid L) 6 (fun _ => rfl)) $$ Hx; iintro Hx
  iapply (step_assume d L (chk_row 6 (by decide) hseg (idx_row _ hseg 6 (by decide) 6144#32 (by decide))))
  iapply (scatter_ac d L 6 (by decide) _ hseg (idx_row _ hseg 6 (by decide) 6144#32 (by decide))) $$ Ha; iintro Ha
  iapply (step_assume d L hchk10)
  iapply (gather_bv d L bt (wid L)) $$ Hb; iintro Hb
  iapply (step_assume d L (chk_row 7 (by decide) hseg' (idx_row _ hseg' 7 (by decide) 7168#32 (by decide))))
  iapply (scatter_ac d L 7 (by decide) _ hseg' (idx_row _ hseg' 7 (by decide) 7168#32 (by decide))) $$ Ha; iintro Ha
  iapply (gather_xv d L xt (wid L) 0 (fun _ => rfl)) $$ Hx; iintro Hx
  iapply (step_assume d L (chk_row 0 (by decide) hseg' (idx_row _ hseg' 0 (by decide) 0#32 (by decide))))
  iapply (scatter_ac d L 0 (by decide) _ hseg' (idx_row _ hseg' 0 (by decide) 0#32 (by decide))) $$ Ha; iintro Ha
  iapply (gather_xv d L xt (wid L) 1 (fun _ => rfl)) $$ Hx; iintro Hx
  iapply (step_assume d L (chk_row 1 (by decide) hseg' (idx_row _ hseg' 1 (by decide) 1024#32 (by decide))))
  iapply (scatter_ac d L 1 (by decide) _ hseg' (idx_row _ hseg' 1 (by decide) 1024#32 (by decide))) $$ Ha; iintro Ha
  iapply (gather_xv d L xt (wid L) 2 (fun _ => rfl)) $$ Hx; iintro Hx
  iapply (step_assume d L (chk_row 2 (by decide) hseg' (idx_row _ hseg' 2 (by decide) 2048#32 (by decide))))
  iapply (scatter_ac d L 2 (by decide) _ hseg' (idx_row _ hseg' 2 (by decide) 2048#32 (by decide))) $$ Ha; iintro Ha
  iapply (gather_xv d L xt (wid L) 3 (fun _ => rfl)) $$ Hx; iintro Hx
  iapply (step_assume d L (chk_row 3 (by decide) hseg' (idx_row _ hseg' 3 (by decide) 3072#32 (by decide))))
  iapply (scatter_ac d L 3 (by decide) _ hseg' (idx_row _ hseg' 3 (by decide) 3072#32 (by decide))) $$ Ha; iintro Ha
  iapply (gather_xv d L xt (wid L) 4 (fun _ => rfl)) $$ Hx; iintro Hx
  iapply (step_assume d L (chk_row 4 (by decide) hseg' (idx_row _ hseg' 4 (by decide) 4096#32 (by decide))))
  iapply (scatter_ac d L 4 (by decide) _ hseg' (idx_row _ hseg' 4 (by decide) 4096#32 (by decide))) $$ Ha; iintro Ha
  iapply (gather_xv d L xt (wid L) 5 (fun _ => rfl)) $$ Hx; iintro Hx
  iapply (step_assume d L (chk_row 5 (by decide) hseg' (idx_row _ hseg' 5 (by decide) 5120#32 (by decide))))
  iapply (scatter_ac d L 5 (by decide) _ hseg' (idx_row _ hseg' 5 (by decide) 5120#32 (by decide))) $$ Ha; iintro Ha
  iapply (gather_xv d L xt (wid L) 6 (fun _ => rfl)) $$ Hx; iintro Hx
  iapply (step_assume d L (chk_row 6 (by decide) hseg' (idx_row _ hseg' 6 (by decide) 6144#32 (by decide))))
  iapply (scatter_ac d L 6 (by decide) _ hseg' (idx_row _ hseg' 6 (by decide) 6144#32 (by decide))) $$ Ha; iintro Ha
  sl_step
  isplitl [Hx]; · iexact Hx
  isplitl [Hb]; · iexact Hb
  have e := accOf_congr (updRows (k0_pay13 k0_pay23 (Scalar.addi 0#32 (Scalar.muli (Scf.iv 0#32 1#32 t) 1#32))) (segAt bt (wid L) (k0_pay14 v23 k0_pay23 (Scalar.addi 0#32 (Scalar.muli (Scf.iv 0#32 1#32 t) 1#32)))) (valsAt xt (wid L) (k0_pay14 v23 k0_pay23 (Scalar.addi 0#32 (Scalar.muli (Scf.iv 0#32 1#32 t) 1#32))))
      (updRows (k0_pay2 k0_pay23 0#32 1#32 t) (segAt bt (wid L) (k0_pay3 v23 k0_pay23 0#32 1#32 t)) (valsAt xt (wid L) (k0_pay3 v23 k0_pay23 0#32 1#32 t)) φ))
    (stepA xt bt (wid L) (t.val + 98) (stepA xt bt (wid L) t.val φ)) fun f s hf => by
      rw [updRows_apply _ _ _ _ _ _ hf, updRows_apply _ _ _ _ _ _ hf,
        stepA_eq xt bt (wid L) (t.val + 98) _ (k0_pay13 k0_pay23 (Scalar.addi 0#32 (Scalar.muli (Scf.iv 0#32 1#32 t) 1#32))) (segAt bt (wid L) (k0_pay14 v23 k0_pay23 (Scalar.addi 0#32 (Scalar.muli (Scf.iv 0#32 1#32 t) 1#32)))) (valsAt xt (wid L) (k0_pay14 v23 k0_pay23 (Scalar.addi 0#32 (Scalar.muli (Scf.iv 0#32 1#32 t) 1#32))) f) f s hmask'
          (fun k hk => by rw [segAt_toNat, hpos' k]; congr 1; omega) (fun k hk => by unfold valsAt; rw [hpos' k]; congr 1; omega),
        stepA_eq xt bt (wid L) t.val φ (k0_pay2 k0_pay23 0#32 1#32 t) (segAt bt (wid L) (k0_pay3 v23 k0_pay23 0#32 1#32 t)) (valsAt xt (wid L) (k0_pay3 v23 k0_pay23 0#32 1#32 t) f) f s hmask
          (fun k hk => by rw [segAt_toNat, hpos k]; congr 1; omega) (fun k hk => by unfold valsAt; rw [hpos k]; congr 1; omega)]
  simp only [updRows, valsAt_seven] at e
  rw [← e]
  iexact Ha

end Cert.Proof.Seg

end
-- ==== Proof.Copy.lean ====
/-
  What one tile's copies leave: the window of features and of segment ids it copies in, the accumulator it clears, and
  the eight rows of partial sums it copies out, as functions of the arrays.
-/
module

public import proofs.«01_k».proof.Proof.Step

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xM" => (Memref.whole Cert.KernelIdeal.main_v0_scv : Memref Cert.KernelIdeal.sig Kind.scVector Space.hbm Cert.KernelIdeal.S7x100000 EltTy.f32)
local notation "bM" => (Memref.whole Cert.KernelIdeal.main_arg4_scv : Memref Cert.KernelIdeal.sig Kind.scVector Space.hbm Cert.KernelIdeal.S100000 EltTy.i32)
local notation "pM" => (Memref.whole Cert.KernelIdeal.main_v1_scv : Memref Cert.KernelIdeal.sig Kind.scVector Space.hbm Cert.KernelIdeal.S32x8x1024 EltTy.f32)
local notation "xvM" => (Memref.whole Cert.KernelIdeal.cc0_scratch0 : Memref Cert.KernelIdeal.sig Kind.scVector Space.vmem Cert.KernelIdeal.S7x3144 EltTy.f32)
local notation "bvM" => (Memref.whole Cert.KernelIdeal.cc0_scratch1 : Memref Cert.KernelIdeal.sig Kind.scVector Space.vmem Cert.KernelIdeal.S3144 EltTy.i32)
local notation "acM" => (Memref.whole Cert.KernelIdeal.cc0_scratch2 : Memref Cert.KernelIdeal.sig Kind.scVector Space.vmem Cert.KernelIdeal.S8192 EltTy.f32)

variable (d : Dev nD) (L : grid0.Coords)

/-! ## Rows of a window, sliced and squeezed -/

abbrev xDst (r : ℕ) (h : ∀ a, (![r, 0] : Fin 2 → ℕ) a + S1x3144.size a ≤ S7x3144.size a) : Memref sig .scVector .vmem S3144 .f32 :=
  ((xvM).slice (Rect.unit (s := S7x3144) ![r, 0] S1x3144.size h) (fun _ => rfl)).squeeze S3144 squeezes_S1x3144_S3144

abbrev xSrc (off : Fin 2 → ℕ) (h : ∀ a, off a + S1x3144.size a ≤ S7x100000.size a) : Memref sig .scVector .hbm S3144 .f32 :=
  ((xM).slice (Rect.unit (s := S7x100000) off S1x3144.size h) (fun _ => rfl)).squeeze S3144 squeezes_S1x3144_S3144

abbrev bSrc (off : Fin 1 → ℕ) (h : ∀ a, off a + S3144.size a ≤ S100000.size a) : Memref sig .scVector .hbm S3144 .i32 :=
  (bM).slice (Rect.unit (s := S100000) off S3144.size h) (fun _ => rfl)

abbrev aSrc (f : ℕ) (h : ∀ a, (![f] : Fin 1 → ℕ) a + S1024.size a ≤ S8192.size a) : Memref sig .scVector .vmem S1024 .f32 :=
  (acM).slice (Rect.unit (s := S8192) ![f] S1024.size h) (fun _ => rfl)

/-- Row `(off 0, off 1)` of the partial sums, as a tile addresses it. -/
abbrev oRowM (off : Fin 3 → ℕ) (h : ∀ a, off a + S1x1x1024.size a ≤ S32x8x1024.size a) : Memref sig .scVector .hbm S1024 .f32 :=
  ((pM).slice (Rect.unit (s := S32x8x1024) off S1x1x1024.size h) (fun _ => rfl)).squeeze S1024 squeezes_S1x1x1024_S1024

theorem xDst_emb (r : ℕ) (h) (z : S3144.Idx) (hr : r < 7) : (xDst r h).view.emb z = at2 r (z 0).val hr (z 0).isLt := by
  show (Rect.unit (s := S7x3144) ![r, 0] S1x3144.size h).emb (Shape.reshapeEquiv _ z) = _
  rw [Shape.reshapeEquiv_cons_one]
  funext a
  refine Fin.ext ?_
  fin_cases a
  · show r + 1 * 0 = r; omega
  · show 0 + 1 * (z 0).val = (z 0).val; omega

theorem xSrc_emb (off : Fin 2 → ℕ) (h) (r o : ℕ) (e : off = ![r, o]) (z : S3144.Idx) (hr : r < 7) (ho : o + (z 0).val < 100000) :
    (xSrc off h).view.emb z = at2 r (o + (z 0).val) hr ho := by
  subst e
  show (Rect.unit (s := S7x100000) ![r, o] S1x3144.size h).emb (Shape.reshapeEquiv _ z) = _
  rw [Shape.reshapeEquiv_cons_one]
  funext a
  refine Fin.ext ?_
  fin_cases a
  · show r + 1 * 0 = r; omega
  · show o + 1 * (z 0).val = o + (z 0).val; omega

theorem win_lt (w : ℕ) (z : S3144.Idx) : b0 w + (z 0).val < 100000 := by
  have := b0_in w; have h : (z 0).val < 3144 := (z 0).isLt; omega

theorem xrow_write (r : ℕ) (hr : r < 7) (h) (off : Fin 2 → ℕ) (ho) (w : ℕ) (e : off = ![r, b0 w]) (f : S7x3144.Idx → F .f32) (xt : S7x100000.Idx → F .f32) :
    View.write (Elt F) (xDst r h).view f ((xSrc off ho).view.read (Elt F) xt) Finset.univ = fun x => if (x 0).val = r then xvOf xt w x else f x := by
  funext x
  by_cases hx : (x 0).val = r
  · rw [if_pos hx]
    have ex : x = (xDst r h).view.emb (at1 (x 1).val (x 1).isLt) := by
      rw [xDst_emb r h _ hr]; funext a; fin_cases a
      · exact Fin.ext hx
      · rfl
    conv_lhs => rw [ex]
    refine (View.write_emb_of_mem (v := (xDst r h).view) (Val := Elt F) f _ (Finset.mem_univ _)).trans ?_
    show xt ((xSrc off ho).view.emb _) = _
    rw [xSrc_emb off ho r (b0 w) e _ hr (win_lt w _)]
    unfold xvOf xg
    have hl : (x 0).val < 7 ∧ b0 w + (x 1).val < 100000 := ⟨(x 0).isLt, win_lt w (at1 (x 1).val (x 1).isLt)⟩
    rw [dif_pos hl]
    refine congrArg xt ?_
    funext a; fin_cases a
    · exact Fin.ext hx.symm
    · rfl
  · rw [if_neg hx]
    refine View.write_of_not_mem (v := (xDst r h).view) (Val := Elt F) f _ _ ?_
    intro hm
    obtain ⟨z, -, hz⟩ := Finset.mem_map.mp hm
    rw [xDst_emb r h _ hr] at hz
    exact hx (congrArg (fun i : S7x3144.Idx => (i 0).val) hz).symm

/-- The seven rows copied in are the tile's window. -/
theorem xv_rows (w : ℕ) (xt : S7x100000.Idx → F .f32) (f : S7x3144.Idx → F .f32)
    (h0 h1 h2 h3 h4 h5 h6) (o0 o1 o2 o3 o4 o5 o6 : Fin 2 → ℕ) (i0 i1 i2 i3 i4 i5 i6)
    (e0 : o0 = ![0, b0 w]) (e1 : o1 = ![1, b0 w]) (e2 : o2 = ![2, b0 w]) (e3 : o3 = ![3, b0 w]) (e4 : o4 = ![4, b0 w]) (e5 : o5 = ![5, b0 w]) (e6 : o6 = ![6, b0 w]) :
    View.write (Elt F) (xDst 6 h6).view (View.write (Elt F) (xDst 5 h5).view (View.write (Elt F) (xDst 4 h4).view (View.write (Elt F) (xDst 3 h3).view
      (View.write (Elt F) (xDst 2 h2).view (View.write (Elt F) (xDst 1 h1).view (View.write (Elt F) (xDst 0 h0).view f
        ((xSrc o0 i0).view.read (Elt F) xt) Finset.univ) ((xSrc o1 i1).view.read (Elt F) xt) Finset.univ) ((xSrc o2 i2).view.read (Elt F) xt) Finset.univ)
        ((xSrc o3 i3).view.read (Elt F) xt) Finset.univ) ((xSrc o4 i4).view.read (Elt F) xt) Finset.univ) ((xSrc o5 i5).view.read (Elt F) xt) Finset.univ)
        ((xSrc o6 i6).view.read (Elt F) xt) Finset.univ = xvOf xt w := by
  rw [xrow_write 0 (by omega) h0 o0 i0 w e0, xrow_write 1 (by omega) h1 o1 i1 w e1, xrow_write 2 (by omega) h2 o2 i2 w e2, xrow_write 3 (by omega) h3 o3 i3 w e3,
    xrow_write 4 (by omega) h4 o4 i4 w e4, xrow_write 5 (by omega) h5 o5 i5 w e5, xrow_write 6 (by omega) h6 o6 i6 w e6]
  funext x
  have hx : (x 0).val < 7 := (x 0).isLt
  dsimp only
  by_cases a6 : (x 0).val = 6; · rw [if_pos a6]
  by_cases a5 : (x 0).val = 5; · rw [if_neg a6, if_pos a5]
  by_cases a4 : (x 0).val = 4; · rw [if_neg a6, if_neg a5, if_pos a4]
  by_cases a3 : (x 0).val = 3; · rw [if_neg a6, if_neg a5, if_neg a4, if_pos a3]
  by_cases a2 : (x 0).val = 2; · rw [if_neg a6, if_neg a5, if_neg a4, if_neg a3, if_pos a2]
  by_cases a1 : (x 0).val = 1; · rw [if_neg a6, if_neg a5, if_neg a4, if_neg a3, if_neg a2, if_pos a1]
  rw [if_neg a6, if_neg a5, if_neg a4, if_neg a3, if_neg a2, if_neg a1, if_pos (by omega)]

/-- The segment ids copied in are the tile's window. -/
theorem bv_row (w : ℕ) (bt : S100000.Idx → BitVec 32) (f : S3144.Idx → BitVec 32) (o : Fin 1 → ℕ) (i) (e : o = ![b0 w]) :
    View.write (Elt F) (bvM).view f ((bSrc o i).view.read (Elt F) bt) Finset.univ = bvOf bt w := by
  subst e
  funext x
  refine (View.write_emb_of_mem (v := (bvM).view) (Val := Elt F) f _ (x := x) (Finset.mem_univ _)).trans ?_
  show bt ((Rect.unit (s := S100000) ![b0 w] S3144.size i).emb x) = _
  unfold bvOf
  rw [dif_pos (win_lt w x)]
  refine congrArg bt ?_
  funext a
  refine Fin.ext ?_
  fin_cases a
  show b0 w + 1 * (x 0).val = b0 w + (x 0).val; omega

/-! ## Clearing the accumulator -/

/-- Sixteen zeros stored at `16 * k` extend a zero prefix of that length. -/
theorem zero_write (k : ℕ) (o : Fin 1 → ℕ) (e : o = ![16 * k]) (h : ∀ a, o a + S16.size a ≤ S8192.size a) (z : F .f32) (g : S8192.Idx → F .f32)
    (hg : ∀ j, (j 0).val < 16 * k → g j = z) (v : S16.Idx → F .f32) (hv : v = fun _ => z) :
    ∀ j, (j 0).val < 16 * (k + 1) → View.write (Elt F) ((acM).access (Rect.unit (s := S8192) o S16.size h)) g v Finset.univ j = z := by
  subst e hv
  intro j hj
  by_cases hk : 16 * k ≤ (j 0).val
  · have ej : j = ((acM).access (Rect.unit (s := S8192) ![16 * k] S16.size h)).emb (at1 ((j 0).val - 16 * k) (by omega)) := by
      funext a
      refine Fin.ext ?_
      fin_cases a
      show (j 0).val = 16 * k + 1 * ((j 0).val - 16 * k); omega
    conv_lhs => rw [ej]
    exact View.write_emb_of_mem (v := (acM).access (Rect.unit (s := S8192) ![16 * k] S16.size h)) (Val := Elt F) g _ (Finset.mem_univ _)
  · refine (View.write_of_not_mem (v := (acM).access (Rect.unit (s := S8192) ![16 * k] S16.size h)) (Val := Elt F) g _ _ ?_).trans (hg j (by omega))
    intro hm
    obtain ⟨y, -, hy⟩ := Finset.mem_map.mp hm
    have : 16 * k + 1 * (y 0).val = (j 0).val := congrArg (fun i : S8192.Idx => (i 0).val) hy
    omega

/-! ## Rows of the partial sums -/

theorem oRow_emb (off : Fin 3 → ℕ) (h) (w f : ℕ) (hw : w < 32) (hf : f < 8) (e : off = ![w, f, 0]) (z : S1024.Idx) :
    (oRowM off h).view.emb z = at3 w f (z 0).val hw hf (z 0).isLt := by
  subst e
  show (Rect.unit (s := S32x8x1024) ![w, f, 0] S1x1x1024.size h).emb (Shape.reshapeEquiv _ z) = _
  rw [← Shape.reshapeEquiv_reshapeEquiv (s := S1x1x1024) (s' := ⟨2, ![1, 1024]⟩) (s'' := S1024) (by decide) (by decide) z]
  rw [Shape.reshapeEquiv_cons_one, Shape.reshapeEquiv_cons_one]
  funext a
  refine Fin.ext ?_
  fin_cases a
  · show w + 1 * 0 = w; omega
  · show f + 1 * 0 = f; omega
  · show 0 + 1 * (z 0).val = (z 0).val; omega

theorem oRow_set (off : Fin 3 → ℕ) (h) (w f : ℕ) (hw : w < 32) (hf : f < 8) (e : off = ![w, f, 0]) :
    (oRowM off h).view.set = Finset.univ.filter fun i : S32x8x1024.Idx => (i 0).val = w ∧ (i 1).val = f := by
  ext i
  rw [Finset.mem_filter]
  constructor
  · intro hm
    obtain ⟨z, -, hz⟩ := Finset.mem_map.mp hm
    rw [oRow_emb off h w f hw hf e] at hz
    subst hz
    exact ⟨Finset.mem_univ _, rfl, rfl⟩
  · rintro ⟨-, h0, h1⟩
    refine Finset.mem_map.mpr ⟨at1 (i 2).val (i 2).isLt, Finset.mem_univ _, ?_⟩
    rw [oRow_emb off h w f hw hf e]
    funext a; fin_cases a
    · exact Fin.ext h0.symm
    · exact Fin.ext h1.symm
    · rfl

theorem aSrc_read (f : ℕ) (h') (φ : ℕ → ℕ → F .f32) (z : S1024.Idx) :
    (aSrc (f * 1024) h').view.read (Elt F) (accOf φ) z = φ f (z 0).val := by
  have hz : (z 0).val < 1024 := (z 0).isLt
  have e : ((aSrc (f * 1024) h').view.emb z) = at1 (f * 1024 + (z 0).val) (by have := h' 0; have h1 : f * 1024 + 1024 ≤ 8192 := this; omega) := by
    funext a
    refine Fin.ext ?_
    fin_cases a
    show f * 1024 + 1 * (z 0).val = f * 1024 + (z 0).val; omega
  refine (congrArg (accOf φ) e).trans ?_
  show φ ((f * 1024 + (z 0).val) / 1024) ((f * 1024 + (z 0).val) % 1024) = _
  rw [show (f * 1024 + (z 0).val) / 1024 = f by omega, show (f * 1024 + (z 0).val) % 1024 = (z 0).val by omega]

theorem oRow_at (off : Fin 3 → ℕ) (h) (w f : ℕ) (hw : w < 32) (hf : f < 8) (e : off = ![w, f, 0]) (p0 : S32x8x1024.Idx → F .f32)
    (v : S1024.Idx → F .f32) (P : S32x8x1024.Idx → F .f32) (z : S1024.Idx) (hv : v z = P (at3 w f (z 0).val hw hf (z 0).isLt)) :
    View.write (Elt F) (oRowM off h).view p0 v Finset.univ ((oRowM off h).view.emb z) = P ((oRowM off h).view.emb z) := by
  refine (View.write_emb_of_mem (v := (oRowM off h).view) (Val := Elt F) p0 v (Finset.mem_univ z)).trans ?_
  exact hv.trans (congrArg P (oRow_emb off h w f hw hf e z)).symm

/-- A row of the accumulator copied out is that row of the partial sums. -/
theorem oRow_write (off : Fin 3 → ℕ) (h) (w f : ℕ) (hw : w < 32) (hf : f < 8) (e : off = ![w, f, 0]) (p0 : S32x8x1024.Idx → F .f32)
    (v : S1024.Idx → F .f32) (P : S32x8x1024.Idx → F .f32) (hv : ∀ z, v z = P (at3 w f (z 0).val hw hf (z 0).isLt))
    (i : S32x8x1024.Idx) (hi : i ∈ (oRowM off h).view.set) :
    View.write (Elt F) (oRowM off h).view p0 v Finset.univ i = P i := by
  obtain ⟨z, -, hz⟩ := Finset.mem_map.mp hi
  exact hz ▸ oRow_at off h w f hw hf e p0 v P z (hv z)

end Cert.Proof.Seg

end
-- ==== Proof.Tile.lean ====
/-
  One tile's run of the kernel, at a symbolic (SparseCore, tile) pair: its window copied in, its accumulator cleared, the
  main loop, its eight rows of partial sums copied out.
-/
module

public import proofs.«01_k».proof.Proof.Copy

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xM" => (Memref.whole Cert.KernelIdeal.main_v0_scv : Memref Cert.KernelIdeal.sig Kind.scVector Space.hbm Cert.KernelIdeal.S7x100000 EltTy.f32)
local notation "bM" => (Memref.whole Cert.KernelIdeal.main_arg4_scv : Memref Cert.KernelIdeal.sig Kind.scVector Space.hbm Cert.KernelIdeal.S100000 EltTy.i32)
local notation "pM" => (Memref.whole Cert.KernelIdeal.main_v1_scv : Memref Cert.KernelIdeal.sig Kind.scVector Space.hbm Cert.KernelIdeal.S32x8x1024 EltTy.f32)
local notation "xvM" => (Memref.whole Cert.KernelIdeal.cc0_scratch0 : Memref Cert.KernelIdeal.sig Kind.scVector Space.vmem Cert.KernelIdeal.S7x3144 EltTy.f32)
local notation "bvM" => (Memref.whole Cert.KernelIdeal.cc0_scratch1 : Memref Cert.KernelIdeal.sig Kind.scVector Space.vmem Cert.KernelIdeal.S3144 EltTy.i32)
local notation "acM" => (Memref.whole Cert.KernelIdeal.cc0_scratch2 : Memref Cert.KernelIdeal.sig Kind.scVector Space.vmem Cert.KernelIdeal.S8192 EltTy.f32)

variable (d : Dev nD) (L : grid0.Coords)

abbrev oPts (off : Fin 3 → ℕ) (h : ∀ a, off a + S1x1x1024.size a ≤ S32x8x1024.size a) (f : Buf (Elt F) (pLoc d)) : sProp 𝕄 :=
  (oRowM off h).view.loc (V d (cV L) (jV L)) ↦[(oRowM off h).view.set]{fullShare} f

/-- How far into its window a tile's nodes start, as the kernel computes it: the number of the tile's first node, less the
    window's first position. -/
def doff (L : grid0.Coords) : BitVec 32 :=
  let n : BitVec 32 := Scalar.muli (Scalar.addi (Scalar.muli (BitVec.ofNat 32 (L 1).val) 2#32) (BitVec.ofNat 32 (L 0).val)) 3125#32
  let sgn (a : BitVec 32) : BitVec 32 := Scalar.subi (Scalar.extui (Scalar.cmpi .sgt a 0#32)) (Scalar.extui (Scalar.cmpi .slt a 0#32))
  let q : BitVec 32 := Scalar.divsi n 8#32
  Scalar.subi n (Scalar.minsi (Scalar.muli (Scalar.select (Scalar.andi (Scalar.cmpi .ne (sgn n) (sgn 8#32)) (Scalar.cmpi .ne (Scalar.remsi n 8#32) 0#32))
    (Scalar.subi q 1#32) q) 8#32) 96856#32)

theorem doff_eq : ∀ L, (doff L).toNat = wid L * 3125 - b0 (wid L) := by decide +kernel

/-- The accumulator, its first `16 * k` words cleared. -/
def zInv (k : ℕ) (_ : Unit) : sProp 𝕄 :=
  iprop(∃ g : S8192.Idx → F .f32, ⌜∀ j, (j 0).val < 16 * k → g j = Scalar.ofBits .f32 0x00000000#32⌝ ∗ acPts d L g)

/-- The held state after `k` trips of the main loop. -/
def mInv (xt : S7x100000.Idx → F .f32) (bt : S100000.Idx → BitVec 32) (k : ℕ) (_ : Unit) : sProp 𝕄 :=
  stPts d L xt bt (accT xt bt (wid L) k)

theorem oPts_congr (off : Fin 3 → ℕ) (h) (f g : Buf (Elt F) (pLoc d)) (e : ∀ i ∈ (oRowM off h).view.set, f i = g i) :
    oPts (F := F) d L off h f = oPts d L off h g := pointsTo_congr e

theorem oPts_done (off : Fin 3 → ℕ) (h) (f : ℕ) (hf : f < 8) (e : off = ![wid L, f, 0]) (h') (p0 : Buf (Elt F) (pLoc d))
    (xt : S7x100000.Idx → F .f32) (bt : S100000.Idx → BitVec 32) (v : S1024.Idx → F .f32)
    (hv : v = (aSrc (f * 1024) h').view.read (Elt F) (accOf (accT xt bt (wid L) 98))) :
    ((oRowM off h).view.loc (V d (cV L) (jV L)) ↦[(oRowM off h).view.set]{fullShare} (oRowM off h).view.writes (Elt F) p0 [⟨Rect.whole S1024, v⟩] : sProp 𝕄)
      = oPts d L off h (partsOf xt bt) := by
  refine pointsTo_congr fun i hi => ?_
  obtain ⟨z, -, hz⟩ := Finset.mem_map.mp hi
  have hw := wid_lt L
  have ez : ((oRowM off h).view.slice (Rect.whole S1024)).emb z = (oRowM off h).view.emb z :=
    congrArg (oRowM off h).view.emb (Rect.emb_whole_apply _ _)
  refine hz ▸ ?_
  refine (congrArg (fun j => (oRowM off h).view.writes (Elt F) p0 [⟨Rect.whole S1024, v⟩] j) ez.symm).trans ?_
  refine (View.write_emb_of_mem (v := (oRowM off h).view.slice (Rect.whole S1024)) (Val := Elt F) p0 v (Finset.mem_univ z)).trans ?_
  refine (congrFun hv z).trans ((aSrc_read f h' _ z).trans ?_)
  exact (congrArg (partsOf xt bt) (oRow_emb off h (wid L) f hw hf e z)).symm

set_option maxHeartbeats 4000000 in
theorem tile_body (hF : (K (F := F)).Facts) (O : CellTallies nD τ sig (HIx 1)) (W : Waits sig (HIx 1)) (hO : ∀ g, O g none = 0)
    (q : PosShare TreeShare) (xt : Buf (Elt F) (xLoc d)) (bt : Buf (Elt F) (bLoc d)) (hbt : ∀ i, (bt i).toNat < 1024) (p0 : Buf (Elt F) (pLoc d)) :
    iprop(levAts (K (F := F)).L (K (F := F)).lev ∗ emp
        ∗ ((xLoc d ↦{q} xt) ∗ (bLoc d ↦{q} bt)
          ∗ oPts d L (k0_off10 L) (k0_off10_inb L) p0 ∗ oPts d L (k0_off11 L) (k0_off11_inb L) p0
          ∗ oPts d L (k0_off12 L) (k0_off12_inb L) p0 ∗ oPts d L (k0_off13 L) (k0_off13_inb L) p0
          ∗ oPts d L (k0_off14 L) (k0_off14_inb L) p0 ∗ oPts d L (k0_off15 L) (k0_off15_inb L) p0
          ∗ oPts d L (k0_off16 L) (k0_off16_inb L) p0 ∗ oPts d L (k0_off17 L) (k0_off17_inb L) p0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_seg_kernel L xM (Memref.isWhole_whole _) bM (Memref.isWhole_whole _) pM (Memref.isWhole_whole _)
            xvM (Memref.isWhole_whole _) bvM (Memref.isWhole_whole _) acM (Memref.isWhole_whole _)
            cc0_scoped0 cc0_scoped1 cc0_scoped2 cc0_scoped3 cc0_scoped4 cc0_scoped5 cc0_scoped6 cc0_scoped7
            cc0_scoped8 cc0_scoped9 cc0_scoped10 cc0_scoped11 cc0_scoped12 cc0_scoped13 cc0_scoped14 cc0_scoped15)
          fun _ => iprop(((xLoc d ↦{q} xt) ∗ (bLoc d ↦{q} bt)
          ∗ oPts d L (k0_off10 L) (k0_off10_inb L) (partsOf xt bt)
          ∗ oPts d L (k0_off11 L) (k0_off11_inb L) (partsOf xt bt)
          ∗ oPts d L (k0_off12 L) (k0_off12_inb L) (partsOf xt bt)
          ∗ oPts d L (k0_off13 L) (k0_off13_inb L) (partsOf xt bt)
          ∗ oPts d L (k0_off14 L) (k0_off14_inb L) (partsOf xt bt)
          ∗ oPts d L (k0_off15 L) (k0_off15_inb L) (partsOf xt bt)
          ∗ oPts d L (k0_off16 L) (k0_off16_inb L) (partsOf xt bt)
          ∗ oPts d L (k0_off17 L) (k0_off17_inb L) (partsOf xt bt))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_seg_kernel_eq_skeleton]; unfold cc0_seg_kernel_skel
  rw [(K (F := F)).scopedBufs_V hF d (cV L) (jV L), SparseCore.Cfg.scopedSems0_V (Val := Elt F) d (cV L) (jV L), ownSems0_V, ownBufs_V, bigSep_sixteen]
  iintro ⟨#Hlv, -, ⟨Hx, Hb, Ho0, Ho1, Ho2, Ho3, Ho4, Ho5, Ho6, Ho7⟩, ⟨⟨%fx, Hxv⟩, ⟨%fb, Hbv⟩, ⟨%fa, Hac⟩, Hbufs⟩, ⟨⟨S0, S1, S2, S3, S4, S5, S6, S7, S8, S9, S10, S11, S12, S13, S14, S15⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hxv := (Entails.of_eq (show ((V d (cV L) (jV L)).loc cc0_scratch0 ↦{fullShare} fx : sProp 𝕄) = ((xvM).view.loc (V d (cV L) (jV L)) ↦{fullShare} fx) from rfl)) $$ Hxv
  ihave Hbv := (Entails.of_eq (show ((V d (cV L) (jV L)).loc cc0_scratch1 ↦{fullShare} fb : sProp 𝕄) = ((bvM).view.loc (V d (cV L) (jV L)) ↦{fullShare} fb) from rfl)) $$ Hbv
  ihave Hac := (Entails.of_eq (show ((V d (cV L) (jV L)).loc cc0_scratch2 ↦{fullShare} fa : sProp 𝕄) = ((acM).view.loc (V d (cV L) (jV L)) ↦{fullShare} fa) from rfl)) $$ Hac
  ihave S0 := (Entails.of_eq (show (semVal (cellK d L 0) 0 : sProp 𝕄) = semVal (V d (cV L) (jV L), .dma cc0_scoped0.sem) 0 from rfl)) $$ S0
  ihave S1 := (Entails.of_eq (show (semVal (cellK d L 1) 0 : sProp 𝕄) = semVal (V d (cV L) (jV L), .dma cc0_scoped1.sem) 0 from rfl)) $$ S1
  ihave S2 := (Entails.of_eq (show (semVal (cellK d L 2) 0 : sProp 𝕄) = semVal (V d (cV L) (jV L), .dma cc0_scoped2.sem) 0 from rfl)) $$ S2
  ihave S3 := (Entails.of_eq (show (semVal (cellK d L 3) 0 : sProp 𝕄) = semVal (V d (cV L) (jV L), .dma cc0_scoped3.sem) 0 from rfl)) $$ S3
  ihave S4 := (Entails.of_eq (show (semVal (cellK d L 4) 0 : sProp 𝕄) = semVal (V d (cV L) (jV L), .dma cc0_scoped4.sem) 0 from rfl)) $$ S4
  ihave S5 := (Entails.of_eq (show (semVal (cellK d L 5) 0 : sProp 𝕄) = semVal (V d (cV L) (jV L), .dma cc0_scoped5.sem) 0 from rfl)) $$ S5
  ihave S6 := (Entails.of_eq (show (semVal (cellK d L 6) 0 : sProp 𝕄) = semVal (V d (cV L) (jV L), .dma cc0_scoped6.sem) 0 from rfl)) $$ S6
  ihave S7 := (Entails.of_eq (show (semVal (cellK d L 7) 0 : sProp 𝕄) = semVal (V d (cV L) (jV L), .dma cc0_scoped7.sem) 0 from rfl)) $$ S7
  ihave Hx := (Entails.of_eq (show (xLoc d ↦{q} xt : sProp 𝕄) = ((xM).view.loc (V d (cV L) (jV L)) ↦{q} xt) from rfl)) $$ Hx
  ihave Hb := (Entails.of_eq (show (bLoc d ↦{q} bt : sProp 𝕄) = ((bM).view.loc (V d (cV L) (jV L)) ↦{q} bt) from rfl)) $$ Hb
  ihave S8 := (Entails.of_eq (show (semVal (cellK d L 8) 0 : sProp 𝕄) = semVal (V d (cV L) (jV L), .dma cc0_scoped8.sem) 0 from rfl)) $$ S8
  ihave S9 := (Entails.of_eq (show (semVal (cellK d L 9) 0 : sProp 𝕄) = semVal (V d (cV L) (jV L), .dma cc0_scoped9.sem) 0 from rfl)) $$ S9
  ihave S10 := (Entails.of_eq (show (semVal (cellK d L 10) 0 : sProp 𝕄) = semVal (V d (cV L) (jV L), .dma cc0_scoped10.sem) 0 from rfl)) $$ S10
  ihave S11 := (Entails.of_eq (show (semVal (cellK d L 11) 0 : sProp 𝕄) = semVal (V d (cV L) (jV L), .dma cc0_scoped11.sem) 0 from rfl)) $$ S11
  ihave S12 := (Entails.of_eq (show (semVal (cellK d L 12) 0 : sProp 𝕄) = semVal (V d (cV L) (jV L), .dma cc0_scoped12.sem) 0 from rfl)) $$ S12
  ihave S13 := (Entails.of_eq (show (semVal (cellK d L 13) 0 : sProp 𝕄) = semVal (V d (cV L) (jV L), .dma cc0_scoped13.sem) 0 from rfl)) $$ S13
  ihave S14 := (Entails.of_eq (show (semVal (cellK d L 14) 0 : sProp 𝕄) = semVal (V d (cV L) (jV L), .dma cc0_scoped14.sem) 0 from rfl)) $$ S14
  ihave S15 := (Entails.of_eq (show (semVal (cellK d L 15) 0 : sProp 𝕄) = semVal (V d (cV L) (jV L), .dma cc0_scoped15.sem) 0 from rfl)) $$ S15
  sl_exec (disch := exact View.amount_pos _ _ (show 0 < S3144.numel by decide))
  sl_for (zInv d L) $$ [Hac]
  case region =>
    intro k _
    unfold zInv
    iintro ⟨%g, %hg, Hac⟩
    sl_exec
    sl_step
    iexists _
    isplitr
    swap; · iexact Hac
    ipureintro
    exact zero_write k.val (k0_off9 k) (off9_eq k) (k0_off9_inb k) _ g hg _ rfl
  · unfold zInv
    iexists fa
    isplitr
    · ipureintro; intro j hj; exact absurd hj (Nat.not_lt_zero _)
    · iexact Hac
  iintro %_ HI
  unfold zInv
  icases HI with ⟨%g, %hg, Hac⟩
  have hz : g = accOf (accT xt bt (wid L) 0) := by
    funext j
    exact hg j (lt_of_lt_of_eq (j 0).isLt (show (8192 : ℕ) = 16 * Scf.trips k0_t1_loop.lb k0_t1_loop.ub k0_t1_loop.st by decide))
  ihave Hac := (Entails.of_eq (congrArg (acPts (F := F) d L) hz)) $$ Hac
  ihave Hxv := (Entails.of_eq (congrArg (xvPts (F := F) d L) (xv_rows (wid L) xt fx _ _ _ _ _ _ _ _ _ _ _ _ _ _ _ _ _ _ _ _ _
    (off1_eq L) (off2_eq L) (off3_eq L) (off4_eq L) (off5_eq L) (off6_eq L) (off7_eq L)))) $$ Hxv
  ihave Hbv := (Entails.of_eq (show ((bvM).view.loc (V d (cV L) (jV L)) ↦{fullShare} View.write (Elt F) (bvM).view fb (tile_body.sl.dma0_7 d L bt) Finset.univ : sProp 𝕄)
    = bvPts d L (bvOf bt (wid L)) from congrArg (bvPts (F := F) d L) (bv_row (F := F) (wid L) bt fb (k0_off8 L) (k0_off8_inb L) (off8_eq L)))) $$ Hbv
  sl_exec
  sl_for (mInv d L xt bt) $$ [Hxv Hbv Hac]
  case region =>
    intro k _
    exact t2_step d L xt bt hbt _ (doff_eq L) k (accT xt bt (wid L) k.val)
  · unfold mInv
    isplitl [Hxv]; · iexact Hxv
    isplitl [Hbv]; · iexact Hbv
    iexact Hac
  iintro %_ HI
  unfold mInv
  icases HI with ⟨Hxv, Hbv, Hac⟩
  sl_exec (disch := exact View.amount_pos _ _ (show 0 < S1024.numel by decide))
  sl_step
  isplitl [Hx Hb Ho0 Ho1 Ho2 Ho3 Ho4 Ho5 Ho6 Ho7]
  · isplitl [Hx]; · iexact Hx
    isplitl [Hb]; · iexact Hb
    isplitl [Ho0]; · iapply (Entails.of_eq (oPts_done d L (k0_off10 L) (k0_off10_inb L) 0 (by omega) (off10_eq L) inb_S8192_S1024_0 p0 xt bt _ rfl)); iexact Ho0
    isplitl [Ho1]; · iapply (Entails.of_eq (oPts_done d L (k0_off11 L) (k0_off11_inb L) 1 (by omega) (off11_eq L) inb_S8192_S1024_1024 p0 xt bt _ rfl)); iexact Ho1
    isplitl [Ho2]; · iapply (Entails.of_eq (oPts_done d L (k0_off12 L) (k0_off12_inb L) 2 (by omega) (off12_eq L) inb_S8192_S1024_2048 p0 xt bt _ rfl)); iexact Ho2
    isplitl [Ho3]; · iapply (Entails.of_eq (oPts_done d L (k0_off13 L) (k0_off13_inb L) 3 (by omega) (off13_eq L) inb_S8192_S1024_3072 p0 xt bt _ rfl)); iexact Ho3
    isplitl [Ho4]; · iapply (Entails.of_eq (oPts_done d L (k0_off14 L) (k0_off14_inb L) 4 (by omega) (off14_eq L) inb_S8192_S1024_4096 p0 xt bt _ rfl)); iexact Ho4
    isplitl [Ho5]; · iapply (Entails.of_eq (oPts_done d L (k0_off15 L) (k0_off15_inb L) 5 (by omega) (off15_eq L) inb_S8192_S1024_5120 p0 xt bt _ rfl)); iexact Ho5
    isplitl [Ho6]; · iapply (Entails.of_eq (oPts_done d L (k0_off16 L) (k0_off16_inb L) 6 (by omega) (off16_eq L) inb_S8192_S1024_6144 p0 xt bt _ rfl)); iexact Ho6
    iapply (Entails.of_eq (oPts_done d L (k0_off17 L) (k0_off17_inb L) 7 (by omega) (off17_eq L) inb_S8192_S1024_7168 p0 xt bt _ rfl)); iexact Ho7
  isplitl [Hxv Hbv Hac Hbufs]
  · isplitl [Hxv]; · iexists _; iexact Hxv
    isplitl [Hbv]; · iexists _; iexact Hbv
    isplitl [Hac]; · iexists _; iexact Hac
    iexact Hbufs
  isplitl [S0 S1 S2 S3 S4 S5 S6 S7 S8 S9 S10 S11 S12 S13 S14 S15 Hsems]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    · iexact Hsems
  iexists _; isplitr
  swap; · iexact HO
  ipureintro; intro p hp
  iterate 16 (rcases Finset.mem_insert.mp hp with hp | hp; · exact .inr (.inl (hp ▸ rfl)))
  exact .inl hp

end Cert.Proof.Seg

end
-- ==== Proof.Launch.lean ====
/-
  What the SparseCore call's handshakes carry, the tiles' obligation from the tile's body, and how a core's share of the
  operands and its half of the partial sums split among its sixteen tiles and come back.
-/
module

public import proofs.«01_k».proof.Proof.Tile

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The parts of the partial sums -/

/-- Row `f` of block `w`; block `w`; the blocks of one core. -/
def rowSet (w f : ℕ) : Finset S32x8x1024.Idx := Finset.univ.filter fun i => (i 0).val = w ∧ (i 1).val = f
def blkSet (w : ℕ) : Finset S32x8x1024.Idx := Finset.univ.filter fun i => (i 0).val = w
def coreSet (c : ℕ) : Finset S32x8x1024.Idx := Finset.univ.filter fun i => (i 0).val % 2 = c

theorem blkSet_eq (w : ℕ) : (Finset.univ : Finset (Fin 8)).biUnion (fun f => rowSet w f.val) = blkSet w := by
  ext i
  simp only [Finset.mem_biUnion, Finset.mem_univ, true_and, rowSet, blkSet, Finset.mem_filter]
  exact ⟨fun ⟨_, h, _⟩ => h, fun h => ⟨⟨(i 1).val, (i 1).isLt⟩, h, rfl⟩⟩

theorem coreSet_eq (c : ℕ) (hc : c < 2) : (Finset.univ : Finset (Fin 16)).biUnion (fun s => blkSet (s.val * 2 + c)) = coreSet c := by
  ext i
  have h0 : (i 0).val < 32 := (i 0).isLt
  simp only [Finset.mem_biUnion, Finset.mem_univ, true_and, blkSet, coreSet, Finset.mem_filter]
  exact ⟨fun ⟨_, h⟩ => by omega, fun h => ⟨⟨(i 0).val / 2, by omega⟩, by show _ = (i 0).val / 2 * 2 + c; omega⟩⟩

theorem allSet_eq : (Finset.univ : Finset (Fin 2)).biUnion (fun c => coreSet c.val) = Finset.univ := by
  ext i
  simp only [Finset.mem_biUnion, Finset.mem_univ, true_and, coreSet, Finset.mem_filter, iff_true]
  exact ⟨⟨(i 0).val % 2, Nat.mod_lt _ (by decide)⟩, rfl⟩

theorem pts_blk (d : Dev nD) (w : ℕ) (f : Buf (Elt F) (pLoc d)) :
    (pLoc d ↦[blkSet w]{fullShare} f : sProp 𝕄) = bigSep Finset.univ fun r : Fin 8 => pLoc d ↦[rowSet w r.val]{fullShare} f := by
  rw [← blkSet_eq w]
  refine pointsTo_biUnion Finset.univ (ℓ := pLoc d) (fun r : Fin 8 => rowSet w r.val) fun a _ b _ hab => ?_
  refine Finset.disjoint_left.mpr fun i hi hj => hab (Fin.ext ?_)
  exact (Finset.mem_filter.mp hi).2.2.symm.trans (Finset.mem_filter.mp hj).2.2

theorem pts_core (d : Dev nD) (c : ℕ) (hc : c < 2) (f : Buf (Elt F) (pLoc d)) :
    (pLoc d ↦[coreSet c]{fullShare} f : sProp 𝕄) = bigSep Finset.univ fun s : Fin 16 => pLoc d ↦[blkSet (s.val * 2 + c)]{fullShare} f := by
  rw [← coreSet_eq c hc]
  refine pointsTo_biUnion Finset.univ (ℓ := pLoc d) (fun s : Fin 16 => blkSet (s.val * 2 + c)) fun a _ b _ hab => ?_
  refine Finset.disjoint_left.mpr fun i hi hj => hab (Fin.ext ?_)
  have h1 := (Finset.mem_filter.mp hi).2
  have h2 := (Finset.mem_filter.mp hj).2
  omega

theorem pts_all (d : Dev nD) (f : Buf (Elt F) (pLoc d)) :
    (pLoc d ↦{fullShare} f : sProp 𝕄) = bigSep Finset.univ fun c : Fin 2 => pLoc d ↦[coreSet c.val]{fullShare} f := by
  rw [← pointsTo_biUnion Finset.univ (ℓ := pLoc d) (fun c : Fin 2 => coreSet c.val) (fun a _ b _ hab => ?_), allSet_eq]
  refine Finset.disjoint_left.mpr fun i hi hj => hab (Fin.ext ?_)
  exact (Finset.mem_filter.mp hi).2.symm.trans (Finset.mem_filter.mp hj).2

/-! ## The shares of the operands -/

/-- A core's share, and a tile's. -/
abbrev qCore (c : Fin 2) : PosShare TreeShare := Transfers.shareTok fullShare 2 c
abbrev qTile (c : Fin 2) (s : Fin 16) : PosShare TreeShare := Transfers.shareTok (qCore c) 16 s

variable [FloatOps F]

/-! ## What the handshakes carry -/

variable (m : (ℓ : Loc nD τ sig) → Buf (Elt F) ℓ) (ρ : Dev nD → PrngReg)

/-- What the program's first line leaves in the transposed features' buffer; the segment ids; the partial sums. -/
def xT (d : Dev nD) : Buf (Elt F) (xLoc d) :=
  (transpose S7x100000 [1, 0] (m ((SparseCore.T d).loc main_arg0)) transposes_S100000x7_S7x100000_1_0 : S7x100000.Idx → F .f32)
abbrev bT (d : Dev nD) : Buf (Elt F) (bLoc d) := m (bLoc d)
def pT (d : Dev nD) : Buf (Elt F) (pLoc d) := partsOf (F := F) (xT m d) (bT m d)

theorem nSub_zero : (K (F := F)).nSub 0 = 16 := rfl
theorem nCore_zero : (K (F := F)).nCore 0 = 2 := rfl

/-- A core's and a tile's operands, and its part of the partial sums at `f`. -/
abbrev corePts (d : Dev nD) (c : Fin 2) (f : Buf (Elt F) (pLoc d)) : sProp 𝕄 :=
  iprop((xLoc d ↦{qCore c} xT m d) ∗ (bLoc d ↦{qCore c} bT m d) ∗ pLoc d ↦[coreSet c.val]{fullShare} f)
abbrev tilePts (d : Dev nD) (c : Fin 2) (s : Fin 16) (f : Buf (Elt F) (pLoc d)) : sProp 𝕄 :=
  iprop((xLoc d ↦{qTile c s} xT m d) ∗ (bLoc d ↦{qTile c s} bT m d) ∗ pLoc d ↦[blkSet (s.val * 2 + c.val)]{fullShare} f)

def P : (K (F := F)).Pay (nD := nD) (Val := Elt F) (Name := ℕ) (U := UU) where
  st := fun q d c => match q with | 0 => corePts m d (Fin.cast nCore_zero c) (m (pLoc d))
  dn := fun q d c => match q with | 0 => corePts m d (Fin.cast nCore_zero c) (pT m d)
  go := fun q d c i => match q with | 0 => tilePts m d (Fin.cast nCore_zero c) (Fin.cast nSub_zero i) (m (pLoc d))
  td := fun q d c i => match q with | 0 => tilePts m d (Fin.cast nCore_zero c) (Fin.cast nSub_zero i) (pT m d)
  x := fun _ _ => iprop(emp)

instance P_storable : (P (F := F) m).IsStorable where
  st q d c := match q with
    | 0 => (inferInstance : BI.Storable (upEmb : UEmb _ 𝕄) (corePts m d (Fin.cast nCore_zero c) (m (pLoc d))))
  dn q d c := match q with
    | 0 => (inferInstance : BI.Storable (upEmb : UEmb _ 𝕄) (corePts m d (Fin.cast nCore_zero c) (pT m d)))
  go q d c i := match q with
    | 0 => (inferInstance : BI.Storable (upEmb : UEmb _ 𝕄) (tilePts m d (Fin.cast nCore_zero c) (Fin.cast nSub_zero i) (m (pLoc d))))
  td q d c i := match q with
    | 0 => (inferInstance : BI.Storable (upEmb : UEmb _ 𝕄) (tilePts m d (Fin.cast nCore_zero c) (Fin.cast nSub_zero i) (pT m d)))

/-- What the run asks of the launch memory: every segment id is below 1024. -/
def PreOK : Prop := ∀ (d : Dev nD) (i : S100000.Idx), (bT m d i : BitVec 32).toNat < 1024

/-! ## The tiles' obligation -/

section Tile

variable (d : Dev nD) (L : grid0.Coords)

theorem row_pts (r : ℕ) (off : Fin 3 → ℕ) (h) (hr : r < 8) (e : off = ![wid L, r, 0]) (f : Buf (Elt F) (pLoc d)) :
    (oPts d L off h f : sProp 𝕄) = pLoc d ↦[rowSet (wid L) r]{fullShare} f := by
  unfold oPts
  rw [oRow_set off h (wid L) r (wid_lt L) hr e]
  rfl

theorem blk_pts (f : Buf (Elt F) (pLoc d)) :
    (pLoc d ↦[blkSet (wid L)]{fullShare} f : sProp 𝕄)
      = iprop(oPts d L (k0_off10 L) (k0_off10_inb L) f ∗ oPts d L (k0_off11 L) (k0_off11_inb L) f
          ∗ oPts d L (k0_off12 L) (k0_off12_inb L) f ∗ oPts d L (k0_off13 L) (k0_off13_inb L) f
          ∗ oPts d L (k0_off14 L) (k0_off14_inb L) f ∗ oPts d L (k0_off15 L) (k0_off15_inb L) f
          ∗ oPts d L (k0_off16 L) (k0_off16_inb L) f ∗ oPts d L (k0_off17 L) (k0_off17_inb L) f) := by
  rw [pts_blk, bigSep_eight,
    row_pts d L 0 _ _ (by decide) (off10_eq L) f, row_pts d L 1 _ _ (by decide) (off11_eq L) f,
    row_pts d L 2 _ _ (by decide) (off12_eq L) f, row_pts d L 3 _ _ (by decide) (off13_eq L) f,
    row_pts d L 4 _ _ (by decide) (off14_eq L) f, row_pts d L 5 _ _ (by decide) (off15_eq L) f,
    row_pts d L 6 _ _ (by decide) (off16_eq L) f, row_pts d L 7 _ _ (by decide) (off17_eq L) f]
  rfl

/-- The tile's body over what the handshake hands it. -/
theorem tile_run (hF : (K (F := F)).Facts) (O : CellTallies nD τ sig (HIx 1)) (W : Waits sig (HIx 1)) (hO : ∀ g, O g none = 0)
    (hpre : PreOK m) (q : PosShare TreeShare) :
    iprop(levAts (K (F := F)).L (K (F := F)).lev ∗ (emp : sProp 𝕄)
        ∗ ((xLoc d ↦{q} xT m d) ∗ (bLoc d ↦{q} bT m d) ∗ pLoc d ↦[blkSet (wid L)]{fullShare} m (pLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_seg_kernel L (Memref.whole main_v0_scv) (Memref.isWhole_whole _) (Memref.whole main_arg4_scv) (Memref.isWhole_whole _)
            (Memref.whole main_v1_scv) (Memref.isWhole_whole _)
            (Memref.whole cc0_scratch0) (Memref.isWhole_whole _) (Memref.whole cc0_scratch1) (Memref.isWhole_whole _)
            (Memref.whole cc0_scratch2) (Memref.isWhole_whole _)
            cc0_scoped0 cc0_scoped1 cc0_scoped2 cc0_scoped3 cc0_scoped4 cc0_scoped5 cc0_scoped6 cc0_scoped7
            cc0_scoped8 cc0_scoped9 cc0_scoped10 cc0_scoped11 cc0_scoped12 cc0_scoped13 cc0_scoped14 cc0_scoped15)
          fun _ => iprop(((xLoc d ↦{q} xT m d) ∗ (bLoc d ↦{q} bT m d) ∗ pLoc d ↦[blkSet (wid L)]{fullShare} pT m d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [blk_pts d L (m (pLoc d)), blk_pts d L (pT m d)]
  exact tile_body d L hF O W hO q (xT m d) (bT m d) (hpre d) (m (pLoc d))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_seg_kernel (coordsV c s)
            (Memref.whole main_v0_scv) (Memref.isWhole_whole _) (Memref.whole main_arg4_scv) (Memref.isWhole_whole _)
            (Memref.whole main_v1_scv) (Memref.isWhole_whole _)
            (Memref.whole cc0_scratch0) (Memref.isWhole_whole _) (Memref.whole cc0_scratch1) (Memref.isWhole_whole _)
            (Memref.whole cc0_scratch2) (Memref.isWhole_whole _)
            cc0_scoped0 cc0_scoped1 cc0_scoped2 cc0_scoped3 cc0_scoped4 cc0_scoped5 cc0_scoped6 cc0_scoped7
            cc0_scoped8 cc0_scoped9 cc0_scoped10 cc0_scoped11 cc0_scoped12 cc0_scoped13 cc0_scoped14 cc0_scoped15) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_run m d (coordsV ⟨_, hci.1⟩ ⟨_, hci.2⟩) hF O W hO hpre (qTile (Fin.cast nCore_zero c) (Fin.cast nSub_zero i))

end Tile

/-! ## A core's operands and its part of the sums, among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem core_split (d : Dev nD) (c : Fin 2) :
    corePts m d c (m (pLoc d)) ⊢ iprop((bigSep Finset.univ fun s : Fin 16 => tilePts m d c s (m (pLoc d)))
      ∗ ((bigSep Finset.univ fun s : Fin 16 => tilePts m d c s (pT m d)) -∗ corePts m d c (pT m d))) := by
  unfold corePts tilePts
  rw [pts_core d c.val c.isLt, pts_core d c.val c.isLt, bigSep_sep', bigSep_sep', bigSep_sep', bigSep_sep']
  iintro ⟨Hx, Hb, Hp⟩
  ihave Hx := (Transfers.pointsTo_toks (qCore c) 16 (ℓ := xLoc d) (f := xT m d) (S := Finset.univ)).1 $$ Hx
  ihave Hb := (Transfers.pointsTo_toks (qCore c) 16 (ℓ := bLoc d) (f := bT m d) (S := Finset.univ)).1 $$ Hb
  icases Hx with ⟨Hxr, Hx⟩
  icases Hb with ⟨Hbr, Hb⟩
  isplitl [Hx Hb Hp]
  · isplitl [Hx]; · iexact Hx
    isplitl [Hb]; · iexact Hb
    iexact Hp
  iintro ⟨Hx, Hb, Hp⟩
  isplitl [Hx Hxr]
  · iapply (Transfers.pointsTo_toks (qCore c) 16 (ℓ := xLoc d) (f := xT m d) (S := Finset.univ)).2
    isplitl [Hxr] <;> iassumption
  isplitl [Hb Hbr]
  · iapply (Transfers.pointsTo_toks (qCore c) 16 (ℓ := bLoc d) (f := bT m d) (S := Finset.univ)).2
    isplitl [Hbr] <;> iassumption
  iexact Hp

theorem vecSplit : (K (F := F)).VecSplit' (P m) 0 := by
  intro d c
  show corePts m d (Fin.cast nCore_zero c) (m (pLoc d)) ⊢ |={Set.univ}=> iprop(
      (bigSep Finset.univ fun i : Fin ((K (F := F)).nSub 0) => tilePts m d (Fin.cast nCore_zero c) (Fin.cast nSub_zero i) (m (pLoc d)))
      ∗ ((bigSep Finset.univ fun i : Fin ((K (F := F)).nSub 0) => tilePts m d (Fin.cast nCore_zero c) (Fin.cast nSub_zero i) (pT m d))
          -∗ corePts m d (Fin.cast nCore_zero c) (pT m d)))
  rw [bigSep_tasks (F := F) (fun s => tilePts m d (Fin.cast nCore_zero c) s (m (pLoc d))),
    bigSep_tasks (F := F) (fun s => tilePts m d (Fin.cast nCore_zero c) s (pT m d))]
  iintro H
  imodintro
  iapply (core_split m d _)
  iexact H

/-! ## The call's operands among the two cores -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = bigSep Finset.univ fun c : Fin 2 => corePts m d c (m (pLoc d)) := bigSep_cores (F := F) _
theorem dn0_eq (d : Dev nD) : (bigSep Finset.univ fun c : Fin ((K (F := F)).nCore 0) => (P m).dn 0 d c)
    = bigSep Finset.univ fun c : Fin 2 => corePts m d c (pT m d) := bigSep_cores (F := F) _

/-- The call's operands whole go out to the cores and come back, the partial sums computed. -/
theorem call_split (d : Dev nD) :
    iprop((xLoc d ↦{fullShare} xT m d) ∗ (bLoc d ↦{fullShare} bT m d) ∗ pLoc d ↦{fullShare} m (pLoc d))
      ⊢ iprop((bigSep Finset.univ fun c : Fin 2 => corePts m d c (m (pLoc d)))
        ∗ ((bigSep Finset.univ fun c : Fin 2 => corePts m d c (pT m d))
          -∗ iprop((xLoc d ↦{fullShare} xT m d) ∗ (bLoc d ↦{fullShare} bT m d) ∗ pLoc d ↦{fullShare} pT m d))) := by
  unfold corePts
  rw [pts_all, pts_all, bigSep_sep', bigSep_sep', bigSep_sep', bigSep_sep']
  iintro ⟨Hx, Hb, Hp⟩
  ihave Hx := (Transfers.pointsTo_toks fullShare 2 (ℓ := xLoc d) (f := xT m d) (S := Finset.univ)).1 $$ Hx
  ihave Hb := (Transfers.pointsTo_toks fullShare 2 (ℓ := bLoc d) (f := bT m d) (S := Finset.univ)).1 $$ Hb
  icases Hx with ⟨Hxr, Hx⟩
  icases Hb with ⟨Hbr, Hb⟩
  isplitl [Hx Hb Hp]
  · isplitl [Hx]; · iexact Hx
    isplitl [Hb]; · iexact Hb
    iexact Hp
  iintro ⟨Hx, Hb, Hp⟩
  isplitl [Hx Hxr]
  · iapply (Transfers.pointsTo_toks fullShare 2 (ℓ := xLoc d) (f := xT m d) (S := Finset.univ)).2
    isplitl [Hxr] <;> iassumption
  isplitl [Hb Hbr]
  · iapply (Transfers.pointsTo_toks fullShare 2 (ℓ := bLoc d) (f := bT m d) (S := Finset.univ)).2
    isplitl [Hbr] <;> iassumption
  iexact Hp

end Cert.Proof.Seg

end
-- ==== Proof.Region.lean ====
/-
  The dense stage on the TensorCore: its body run, what it leaves in the result's buffer, and its region over the
  thread state of the SparseCore program (every unscoped buffer at a valuation, and what the core owes).
-/
module

public import proofs.«01_k».proof.Proof.Setup

@[expose] public section

noncomputable section

namespace Cert.Proof.Dense

open Cert.KernelIdeal Cert.KernelIdeal.Gen
open Cert.Proof.Seg (UU EP 𝒱₀ K D facts)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body -/

set_option maxRecDepth 65536 in
set_option maxHeartbeats 4000000 in
/-- What the body leaves in the result's staging buffer, over the operands', with the run that leaves it. -/
def bodyRun (c : Dev nD) (M0 : Memref sig .tc .vmem S32x8x1024 .f32) (h0 : M0.IsWhole) (M1 : Memref sig .tc .vmem S1024x64 .f32) (h1 : M1.IsWhole)
    (M2 : Memref sig .tc .vmem S64x64 .f32) (h2 : M2.IsWhole) (M3 : Memref sig .tc .vmem S7x64 .f32) (h3 : M3.IsWhole)
    (M4 : Memref sig .tc .vmem S1x64 .f32) (h4 : M4.IsWhole) (M5 : Memref sig .tc .vmem S64x64 .f32) (h5 : M5.IsWhole)
    (M6 : Memref sig .tc .vmem S1x64 .f32) (h6 : M6.IsWhole) (M7 : Memref sig .tc .vmem S1024x64 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) :
    { W : Bf (F := F) c M7 // ∀ (f7 : Bf (F := F) c M7) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ (iprop(pt c M0 f0 ∗ pt c M1 f1 ∗ pt c M2 f2 ∗ pt c M3 f3 ∗ pt c M4 f4 ∗ pt c M5 f5 ∗ pt c M6 f6 ∗ pt c M7 W) -∗ Q ⟨⟩))
          ⊢ wp frame (wpE (defs₀ (F := F)) 𝒱₀ c none) E (cc1_body M0 h0 M1 h1 M2 h2 M3 h3 M4 h4 M5 h5 M6 h6 M7 h7) Q } := by
  refine ⟨?_, fun f7 E Q => ?run⟩
  case run =>
    simp only [cc1_body_eq_skeleton]
    unfold cc1_body_skel
    simp only [k1_part1_eq_skeleton, k1_part2_eq_skeleton, k1_part3_eq_skeleton, k1_part4_eq_skeleton]
    unfold k1_part1_skel k1_part2_skel k1_part3_skel k1_part4_skel
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Proof.Dense

end
-- ==== Proof.DenseRegion.lean ====
/-
  The dense stage's region: the value it leaves in the result's array, its proof data at an entry valuation, and the
  region over the core's thread state.
-/
module

public import proofs.«01_k».proof.Proof.Region
public import Idealize.ShloMosaic.Lib.VecWindow
public import Idealize.ShloMosaic.Lib.Pipeline.RegionsLoop
public import Idealize.ShloMosaic.Lib.Pipeline.Value

@[expose] public section

noncomputable section

namespace Cert.Proof.Dense

open Cert.KernelIdeal Cert.KernelIdeal.Gen
open Cert.Proof.Seg (UU EP 𝒱₀ K D facts)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The value -/

/-- Tile `i`'s partial sums, as the body loads them. -/
def row (p : Vec F S32x8x1024 .f32) (i : ℕ) (h : ∀ a, ![i, 0, 0] a + S1x8x1024.size a ≤ S32x8x1024.size a) : Vec F S1x8x1024 .f32 :=
  fun y => p ((Rect.unit (s := S32x8x1024) ![i, 0, 0] S1x8x1024.size h).idx y)

/-- The thirty-two tiles' partial sums added up, but for the last two. -/
def sum30 (p : Vec F S32x8x1024 .f32) : FVec F S8x1024 .f32 :=
  k1_pay3 (k1_pay2 (k1_pay1 (row p 0 (by decide)) (row p 1 (by decide)) (row p 2 (by decide)) (row p 3 (by decide)) (row p 4 (by decide)) (row p 5 (by decide)) (row p 6 (by decide)) (row p 7 (by decide)) (row p 8 (by decide)) (row p 9 (by decide)))
      (row p 10 (by decide)) (row p 11 (by decide)) (row p 12 (by decide)) (row p 13 (by decide)) (row p 14 (by decide)) (row p 15 (by decide)) (row p 16 (by decide)) (row p 17 (by decide)) (row p 18 (by decide)) (row p 19 (by decide)))
    (row p 20 (by decide)) (row p 21 (by decide)) (row p 22 (by decide)) (row p 23 (by decide)) (row p 24 (by decide)) (row p 25 (by decide)) (row p 26 (by decide)) (row p 27 (by decide)) (row p 28 (by decide)) (row p 29 (by decide))

/-- What the dense stage leaves, of the partial sums and its six other operands. -/
def dense (p : Vec F S32x8x1024 .f32) (u : Vec F S1024x64 .f32) (w1u : Vec F S64x64 .f32) (w1m : Vec F S7x64 .f32) (b1 : Vec F S1x64 .f32)
    (w2 : Vec F S64x64 .f32) (b2 : Vec F S1x64 .f32) : FVec F S1024x64 .f32 :=
  k1_pay4 (sum30 p) (row p 30 (by decide)) (row p 31 (by decide)) u w1u w1m b1 w2 b2

/-- A store of a whole buffer's own sizes leaves the payload. -/
theorem whole_writes_full {κ : Kind} (b : Ref sig κ) (f : b.ty.Contents (Elt F)) {off : Fin b.ty.shape.rank → ℕ}
    (inb : ∀ a, off a + b.ty.shape.size a ≤ b.ty.shape.size a) (w : (Rect.unit off b.ty.shape.size inb).shape.Idx → Elt F b.ty.elt) :
    (View.whole b).writes (Elt F) f [⟨Rect.unit off b.ty.shape.size inb, w⟩] = w :=
  (View.read_whole b _).symm.trans (View.read_writes_full (View.whole b) f inb w [])

set_option maxHeartbeats 1000000 in
set_option maxRecDepth 65536 in
/-- The body's run leaves it. -/
theorem body_val (c : Dev nD) (f0 : Bf (F := F) c (stage1_0 0)) (f1 : Bf (F := F) c (stage1_1 0)) (f2 : Bf (F := F) c (stage1_2 0)) (f3 : Bf (F := F) c (stage1_3 0))
    (f4 : Bf (F := F) c (stage1_4 0)) (f5 : Bf (F := F) c (stage1_5 0)) (f6 : Bf (F := F) c (stage1_6 0)) :
    (bodyRun c (stage1_0 0) (hstage1_0 0) (stage1_1 0) (hstage1_1 0) (stage1_2 0) (hstage1_2 0) (stage1_3 0) (hstage1_3 0) (stage1_4 0) (hstage1_4 0)
      (stage1_5 0) (hstage1_5 0) (stage1_6 0) (hstage1_6 0) (stage1_7 0) (hstage1_7 0) f0 f1 f2 f3 f4 f5 f6).1 = dense f0 f1 f2 f3 f4 f5 f6 := by
  unfold bodyRun
  dsimp only
  unfold bodyRun.sl.H7_1
  refine (whole_writes_full cc1_stg7_0 _ (off := ![0, 0]) inb_S1024x64_S1024x64_0_0 _).trans ?_
  unfold dense sum30
  congr 1
  · exact Memref.readAt_unit_zero (Elt F) cc1_stg1_0 (off := ![0, 0]) (by decide) _ f1
  · exact Memref.readAt_unit_zero (Elt F) cc1_stg2_0 (off := ![0, 0]) (by decide) _ f2
  · exact Memref.readAt_unit_zero (Elt F) cc1_stg3_0 (off := ![0, 0]) (by decide) _ f3
  · exact Memref.readAt_unit_zero (Elt F) cc1_stg4_0 (off := ![0, 0]) (by decide) _ f4
  · exact Memref.readAt_unit_zero (Elt F) cc1_stg5_0 (off := ![0, 0]) (by decide) _ f5
  · exact Memref.readAt_unit_zero (Elt F) cc1_stg6_0 (off := ![0, 0]) (by decide) _ f6

/-! ## The proof data, at an entry valuation -/

variable (V : (c : Dev nD) → (b : Ref sig .tc) → Buf (Elt F) ((c : Thread nD τ).loc b))

/-- The result, of the valuation's arrays. -/
abbrev out (c : Dev nD) : FVec F S1024x64 .f32 :=
  dense (V c main_v1) (V c main_arg3) (V c main_v2) (V c main_v3) (V c main_v4) (V c main_arg7) (V c main_v5)

/-- The scoped buffers the region does not stage. -/
abbrev Φc (c : Dev nD) : sProp 𝕄 := Pipeline.scopedRest (Ix := HIx 1) (Name := ℕ) (U := UU) (Lvl := ℕ) (Val := Elt F) spec1 c

/-- What the core may have waited on when the region starts: cells of the sequencer's rounds already over. -/
def early (c : Dev nD) : Set (SemLoc sig × HIx 1) := {p | (K (F := F)).lev ((c : Thread nD τ), p.1) p.2 ≤ 8}

/-- The region's proof data: the arrays at the valuation, the operands' staging buffers as fetched, the result's at the
    value; nothing owed. -/
def dat (c : Dev nD) : Dat τ (Elt F) (HIx 1) ℕ UU ℕ cfg1 c where
  A w := V c (Pipeline.arrRef spec1 w)
  after w _ := match w with
    | ⟨0, _⟩ => V c main_v1
    | ⟨1, _⟩ => V c main_arg3
    | ⟨2, _⟩ => V c main_v2
    | ⟨3, _⟩ => V c main_v3
    | ⟨4, _⟩ => V c main_v4
    | ⟨5, _⟩ => V c main_arg7
    | ⟨6, _⟩ => V c main_v5
    | ⟨7, _⟩ => out V c
  Φ _ := Φc c
  q _ := fullShare
  owed _ := 0
  recorded _ := early (F := F) c

abbrev adm (p : Fin 1) : (pcfgs (F := F) p).Adm := (cfgs p).toPCfg_adm

/-- The one pipeline's. -/
def pdats : (p : Fin 1) → (c : Dev nD) → Dat τ (Elt F) (HIx 1) ℕ UU ℕ (Pipeline.pin (pcfgs (F := F)) adm p) c
  | ⟨0, _⟩ => fun c => dat V c

theorem before_0 (c : Dev nD) (d : (cfg1.win 0).block.Idx → Elt F (cfg1.win 0).elt) : (dat V c).before 0 t1_0 d = V c main_v1 := by
  unfold Dat.before; rw [if_pos (by decide)]
  exact Memref.readAt_unit_zero (Elt F) main_v1 (funext fun a => Nat.zero_mul _) _ (V c main_v1)

theorem before_1 (c : Dev nD) (d : (cfg1.win 1).block.Idx → Elt F (cfg1.win 1).elt) : (dat V c).before 1 t1_0 d = V c main_arg3 := by
  unfold Dat.before; rw [if_pos (by decide)]
  exact Memref.readAt_unit_zero (Elt F) main_arg3 (funext fun a => Nat.zero_mul _) _ (V c main_arg3)

theorem before_2 (c : Dev nD) (d : (cfg1.win 2).block.Idx → Elt F (cfg1.win 2).elt) : (dat V c).before 2 t1_0 d = V c main_v2 := by
  unfold Dat.before; rw [if_pos (by decide)]
  exact Memref.readAt_unit_zero (Elt F) main_v2 (funext fun a => Nat.zero_mul _) _ (V c main_v2)

theorem before_3 (c : Dev nD) (d : (cfg1.win 3).block.Idx → Elt F (cfg1.win 3).elt) : (dat V c).before 3 t1_0 d = V c main_v3 := by
  unfold Dat.before; rw [if_pos (by decide)]
  exact Memref.readAt_unit_zero (Elt F) main_v3 (funext fun a => Nat.zero_mul _) _ (V c main_v3)

theorem before_4 (c : Dev nD) (d : (cfg1.win 4).block.Idx → Elt F (cfg1.win 4).elt) : (dat V c).before 4 t1_0 d = V c main_v4 := by
  unfold Dat.before; rw [if_pos (by decide)]
  exact Memref.readAt_unit_zero (Elt F) main_v4 (funext fun a => Nat.zero_mul _) _ (V c main_v4)

theorem before_5 (c : Dev nD) (d : (cfg1.win 5).block.Idx → Elt F (cfg1.win 5).elt) : (dat V c).before 5 t1_0 d = V c main_arg7 := by
  unfold Dat.before; rw [if_pos (by decide)]
  exact Memref.readAt_unit_zero (Elt F) main_arg7 (funext fun a => Nat.zero_mul _) _ (V c main_arg7)

theorem before_6 (c : Dev nD) (d : (cfg1.win 6).block.Idx → Elt F (cfg1.win 6).elt) : (dat V c).before 6 t1_0 d = V c main_v5 := by
  unfold Dat.before; rw [if_pos (by decide)]
  exact Memref.readAt_unit_zero (Elt F) main_v5 (funext fun a => Nat.zero_mul _) _ (V c main_v5)

/-- The library's body obligation: the eight staging buffers taken apart, the run applied, its post reassembled. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  iapply ((bodyRun c (stage1_0 0) (hstage1_0 0) (stage1_1 0) (hstage1_1 0) (stage1_2 0) (hstage1_2 0) (stage1_3 0) (hstage1_3 0) (stage1_4 0) (hstage1_4 0)
    (stage1_5 0) (hstage1_5 0) (stage1_6 0) (hstage1_6 0) (stage1_7 0) (hstage1_7 0) (V c main_v1) (V c main_arg3) (V c main_v2) (V c main_v3) (V c main_v4)
    (V c main_arg7) (V c main_v5)).2 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  iexists _; isplitr; swap; (· iexact H7); ipureintro; exact body_val c _ _ _ _ _ _ _

/-- The result's array after the region. -/
theorem arrAt_out (c : Dev nD) : (dat V c).arrAt 7 cfg1.N = out V c := by
  refine funext fun i => (dat V c).arrAt_apply_of_mem 7 (out V c) (fun t _ => ?_) cfg1.N t1_0 i (by decide) (by decide) ?_
  · exact (Memref.readAt_unit_zero (Elt F) main_v6 (funext fun a => Nat.zero_mul _) _ (out V c)).symm
  · exact Finset.mem_map.mpr ⟨i, Finset.mem_univ _, funext fun a => Fin.ext (by show 0 * _ + 1 * (i a).val = (i a).val; omega)⟩

/-! ## The region over the thread state -/

/-- What the core owes after the sequencer's one round: nothing, its waits recorded early. -/
abbrev owesEarly (c : Dev nD) : sProp 𝕄 :=
  iprop(∃ W, ⌜(K (F := F)).WBelow (c : Thread nD τ) W (8 * 1)⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The region: entered with the unscoped buffers at `V`, left with them at `Vp`, which has the result's array at the value
    and agrees with `V` elsewhere. -/
def reg (hVp_out : ∀ c, Vp c main_v6 = out V c) (hVp_ne : ∀ c (b : Ref sig .tc), b ≠ main_v6 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesEarly c)
  post c := iprop(unscopedBufs c (Vp c) ∗ owesEarly c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q (Finset.mem_coe.mp hq))
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v1 (by decide)).symm
        · exact ((pdats V 0 c).arrAt_in 1 rfl _).trans (hVp_ne c main_arg3 (by decide)).symm
        · exact ((pdats V 0 c).arrAt_in 2 rfl _).trans (hVp_ne c main_v2 (by decide)).symm
        · exact ((pdats V 0 c).arrAt_in 3 rfl _).trans (hVp_ne c main_v3 (by decide)).symm
        · exact ((pdats V 0 c).arrAt_in 4 rfl _).trans (hVp_ne c main_v4 (by decide)).symm
        · exact ((pdats V 0 c).arrAt_in 5 rfl _).trans (hVp_ne c main_arg7 (by decide)).symm
        · exact ((pdats V 0 c).arrAt_in 6 rfl _).trans (hVp_ne c main_v5 (by decide)).symm
        · exact (arrAt_out V c).trans (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro q hq
      rcases hW (Finset.mem_coe.mpr hq) with h | h
      · exact h
      · obtain ⟨w, s, rfl⟩ := h
        exact Nat.zero_le _
    iexact HO

end Cert.Proof.Dense

end
-- ==== Proof.Run.lean ====
/-
  The kernel's program run: @main on the TensorCore around the SparseCore call and the dense stage's region, what the
  final memory holds, and the frames.
-/
module

public import proofs.«01_k».proof.Proof.Launch
public import proofs.«01_k».proof.Proof.DenseRegion
public import Idealize.ShloMosaic.Lib.Pipeline.Sound

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Dense (adm dense reg)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state the launch starts from -/

abbrev pin : Fin 1 → Pipeline.Cfg sig Λ₀ := Pipeline.pin (pcfgs (F := F)) adm

def u₀ : UU :=
  (initOf (K (F := F)).hsCells (K (F := F)).hsToks,
    (initOf (Pipeline.cells (nD := nD) (τ := τ) (pin (F := F)) cellOf_inj) (Pipeline.launchToks (nD := nD) (τ := τ) (pin (F := F)) cellOf_inj), 1))

/-- A device's TensorCore's share: the pipeline's cells and duties. -/
abbrev G (d : Dev nD) : sProp 𝕄 := iprop(Pipeline.cellsGhost (pin (F := F)) EP 0 d ∗ Pipeline.toksInit (pin (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) (pin (F := F)) cellOf_inj) (Pipeline.launchToks (nD := nD) (τ := τ) (pin (F := F)) cellOf_inj), 1) : UP × Counters)) $$ Hu
  icases H with ⟨HH, HP⟩
  ihave HP := (Entails.of_eq (show (BI.own (embR ((initOf (Pipeline.cells (nD := nD) (τ := τ) (pin (F := F)) cellOf_inj)
      (Pipeline.launchToks (nD := nD) (τ := τ) (pin (F := F)) cellOf_inj), 1) : UP × Counters)) : sProp 𝕄)
    = BI.own (EP (initOf (Pipeline.cells (nD := nD) (τ := τ) (pin (F := F)) cellOf_inj) (Pipeline.launchToks (nD := nD) (τ := τ) (pin (F := F)) cellOf_inj))) from rfl)) $$ HP
  ihave HG := (Pipeline.fund_ghost (pin (F := F)) EP cellOf_inj) $$ HP
  imod HG
  icases HG with ⟨Hc, Ht⟩
  imodintro
  isplitl [HH]; · iexact HH
  isplitl [Hc Ht]
  · rw [show (bigSep Finset.univ fun d : Dev nD => (G d : sProp 𝕄)) = iprop((bigSep Finset.univ fun d : Dev nD => bigSep Finset.univ fun p : Fin 1 => Pipeline.cellsGhost (pin (F := F)) EP p d)
        ∗ bigSep Finset.univ fun d : Dev nD => bigSep Finset.univ fun p : Fin 1 => Pipeline.toksInit (pin (F := F)) EP p d) from by
      rw [← bigSep_sep']
      refine bigSep_congr fun d _ => ?_
      rw [bigSep_univ_of_subsingleton (0 : Fin 1), bigSep_univ_of_subsingleton (0 : Fin 1)]]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The TensorCore's arrays through @main -/

/-- The TensorCore's arrays: every unscoped buffer. -/
def arrs : Finset (DevRef τ sig) := (StableHlo.tcRefs τ sig).filter fun b => ¬ b.isScoped

theorem mem_arrs (b : Ref sig .tc) (h : b.isScoped = false) : Proc.devRef .tc b ∈ arrs :=
  Finset.mem_filter.mpr ⟨StableHlo.devRef_mem_tcRefs b, fun h' => Bool.false_ne_true (h.symm.trans h')⟩

theorem unscoped_eq (d : Dev nD) (W : Valuation τ sig (Elt F)) :
    (unscopedBufs d (fun b => W b) : sProp 𝕄) = held (T d) arrs W := by
  unfold unscopedBufs StableHlo.held arrs StableHlo.tcRefs
  rw [Finset.filter_map, bigSep_map]
  rfl

abbrev op1 : HloOp τ sig (Elt F) := StableHlo.unary main_arg0 main_v0 ((transpose S7x100000 [1, 0] · transposes_S100000x7_S7x100000_1_0) : (⟨S100000x7, .f32⟩ : BufTy).Contents (Elt F) → (⟨S7x100000, .f32⟩ : BufTy).Contents (Elt F))
abbrev op2 : HloOp τ sig (Elt F) := StableHlo.unary main_arg5 main_v2 ((extractStridedSlice S64x64 ![0, 0] · slices_S71x64_S64x64_0_0) : (⟨S71x64, .f32⟩ : BufTy).Contents (Elt F) → (⟨S64x64, .f32⟩ : BufTy).Contents (Elt F))
abbrev op3 : HloOp τ sig (Elt F) := StableHlo.unary main_arg5 main_v3 ((extractStridedSlice S7x64 ![64, 0] · slices_S71x64_S7x64_64_0) : (⟨S71x64, .f32⟩ : BufTy).Contents (Elt F) → (⟨S7x64, .f32⟩ : BufTy).Contents (Elt F))
abbrev op4 : HloOp τ sig (Elt F) := StableHlo.reshape main_arg6 main_v4 (rfl : (.f32 : EltTy) = .f32) shapeCasts_S64_S1x64
abbrev op5 : HloOp τ sig (Elt F) := StableHlo.reshape main_arg8 main_v5 (rfl : (.f32 : EltTy) = .f32) shapeCasts_S64_S1x64

theorem sub_two {a b : Ref sig .tc} (ha : a.isScoped = false) (hb : b.isScoped = false) :
    ({Proc.devRef .tc a, Proc.devRef .tc b} : Finset (DevRef τ sig)) ⊆ arrs :=
  Finset.insert_subset (mem_arrs a ha) (Finset.singleton_subset_iff.mpr (mem_arrs b hb))

/-- The launch contents; after the transpose; after the call; after the slices and the reshapes; after the region. -/
def V0 (d : Dev nD) : Valuation τ sig (Elt F) := fun b => m (d, b)
def V1 (d : Dev nD) : Valuation τ sig (Elt F) := (op1 (F := F)).result (V0 m d)
def V2 (d : Dev nD) : Valuation τ sig (Elt F) := Function.update (V1 m d) (Proc.devRef .tc main_v1) (pT m d)
def V6 (d : Dev nD) : Valuation τ sig (Elt F) := (op5 (F := F)).result ((op4 (F := F)).result ((op3 (F := F)).result ((op2 (F := F)).result (V2 m d))))
/-- The dense stage's result. -/
def outV (d : Dev nD) : FVec F S1024x64 .f32 := Dense.out (fun c b => V6 m c b) d
def V7 (d : Dev nD) : Valuation τ sig (Elt F) := Function.update (V6 m d) (Proc.devRef .tc main_v6) (outV m d)

theorem V1_x (d : Dev nD) : V1 m d (Proc.devRef .tc main_v0) = xT m d := StableHlo.unary_result _ _ _ _ _ _
theorem V1_ne (d : Dev nD) (b : Ref sig .tc) (h : b ≠ main_v0) : V1 m d b = m ((SparseCore.T d).loc b) := StableHlo.unary_result_ne _ _ _ _ _ _ h

theorem V2_ne (d : Dev nD) (b : Ref sig .tc) (h : b ≠ main_v1) : V2 m d b = V1 m d b :=
  Function.update_of_ne (StableHlo.devRef_ne_of_ne h) _ _
theorem V2_p (d : Dev nD) : V2 m d (Proc.devRef .tc main_v1) = pT m d := Function.update_self _ _ _

theorem V6_ne (d : Dev nD) (b : Ref sig .tc) (h2 : b ≠ main_v2) (h3 : b ≠ main_v3) (h4 : b ≠ main_v4) (h5 : b ≠ main_v5) : V6 m d b = V2 m d b := by
  unfold V6
  rw [StableHlo.reshape_result_ne _ _ _ _ _ _ _ h5, StableHlo.reshape_result_ne _ _ _ _ _ _ _ h4, StableHlo.unary_result_ne _ _ _ _ _ _ h3, StableHlo.unary_result_ne _ _ _ _ _ _ h2]

/-- The call's three arrays. -/
abbrev three : Finset (DevRef τ sig) := {Proc.devRef .tc main_v0, Proc.devRef .tc main_arg4, Proc.devRef .tc main_v1}

theorem three_sub : three ⊆ arrs := Finset.insert_subset (mem_arrs _ rfl) (sub_two rfl rfl)

theorem held_three (d : Dev nD) (W : Valuation τ sig (Elt F)) :
    (held (T d) three W : sProp 𝕄) = iprop((xLoc d ↦{fullShare} W (Proc.devRef .tc main_v0)) ∗ (bLoc d ↦{fullShare} W (Proc.devRef .tc main_arg4)) ∗ pLoc d ↦{fullShare} W (Proc.devRef .tc main_v1)) := by
  unfold held three
  rw [SparseCore.bigSep_insert' (by decide), SparseCore.bigSep_insert' (by decide), bigSep_singleton]

/-- The arrays before the call, and after it. -/
theorem held_V1 (d : Dev nD) : (held (T d) arrs ((op1 (F := F)).result (V0 m d)) : sProp 𝕄)
    = iprop(((xLoc d ↦{fullShare} xT m d) ∗ (bLoc d ↦{fullShare} bT m d) ∗ pLoc d ↦{fullShare} m (pLoc d)) ∗ held (T d) (arrs \ three) (V1 m d)) := by
  rw [show (op1 (F := F)).result (V0 m d) = V1 m d from rfl, held_sub_split (T d) three_sub (V1 m d), held_three, V1_x,
    V1_ne m d main_arg4 (by decide), V1_ne m d main_v1 (by decide)]
theorem held_V2 (d : Dev nD) : (held (T d) arrs (V2 m d) : sProp 𝕄)
    = iprop(((xLoc d ↦{fullShare} xT m d) ∗ (bLoc d ↦{fullShare} bT m d) ∗ pLoc d ↦{fullShare} pT m d) ∗ held (T d) (arrs \ three) (V1 m d)) := by
  rw [held_sub_split (T d) three_sub (V2 m d), held_three, V2_p, V2_ne m d main_v0 (by decide), V2_ne m d main_arg4 (by decide), V1_x, V1_ne m d main_arg4 (by decide),
    held_congr (T d) (S := arrs \ three) (V := V2 m d) (V' := V1 m d) fun b hb => Function.update_of_ne (fun h => (Finset.mem_sdiff.mp hb).2 (by rw [h]; simp)) _ _]

/-- The region at this valuation. -/
abbrev dreg : Pipeline.RegionSeg (pcfgs (F := F)) adm (Dense.pdats fun c b => V6 m c b) (none : HIx 1) defs₀ 𝒱₀ (K (F := F)).L (K (F := F)).lev 0 :=
  reg (fun c b => V6 m c b) (fun c b => V7 m c b) (fun c => Function.update_self _ _ _) (fun c b h => Function.update_of_ne (StableHlo.devRef_ne_of_ne h) _ _)

/-! ## @main -/

/-- What @main leaves the claims: every array at the last valuation. -/
abbrev FIN (d : Dev nD) : sProp 𝕄 := held (T d) arrs (V7 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrs (V0 m d) from unscoped_eq d (V0 m d)]
  simp only [main, wp_bind, wp_pure]
  iintro ⟨#Hctx, Hst, ⟨Hb, Hheld, Hts, -⟩, HG⟩
  iapply (wp_hlo_within 𝒱 (SparseCore.T d) none Set.univ (op := op1) (S := arrs) (sub_two rfl rfl) (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hc, Hrest⟩
  ihave Hs := (call_split m d) $$ Hc
  icases Hs with ⟨Hgo, Hback⟩
  iapply ((K (F := F)).wp_run (D (F := F)) 𝒱 (EH := EH) (P := P m) κ d 0) $$ [Hst Hgo Hback Hb Hrest Hts HG]
  isplitr; · iexact Hctx
  isplitl [Hst]; · iexact Hst
  isplitl [Hgo]
  · rw [st0_eq]; iexact Hgo
  iintro ⟨Hst, Hdn⟩
  ihave Hdn := (Entails.of_eq (dn0_eq m d)) $$ Hdn
  ihave Hc := Hback $$ Hdn
  ihave Hheld := (Entails.of_eq (held_V2 (F := F) m d).symm) $$ [Hc Hrest]
  · isplitl [Hc] <;> iassumption
  iapply (wp_hlo_within 𝒱 (SparseCore.T d) none Set.univ (op := op2) (S := arrs) (sub_two rfl rfl) (V := V2 m d)) $$ [Hb Hheld]
  · isplitl [Hb] <;> iassumption
  iintro ⟨Hb, Hheld⟩
  rw [wp_ret]; imodintro
  iapply (wp_hlo_within 𝒱 (SparseCore.T d) none Set.univ (op := op3) (S := arrs) (sub_two rfl rfl) (V := (op2 (F := F)).result (V2 m d))) $$ [Hb Hheld]
  · isplitl [Hb] <;> iassumption
  iintro ⟨Hb, Hheld⟩
  rw [wp_ret]; imodintro
  iapply (wp_hlo_within 𝒱 (SparseCore.T d) none Set.univ (op := op4) (S := arrs) (sub_two rfl rfl) (V := (op3 (F := F)).result ((op2 (F := F)).result (V2 m d)))) $$ [Hb Hheld]
  · isplitl [Hb] <;> iassumption
  iintro ⟨Hb, Hheld⟩
  rw [wp_ret]; imodintro
  iapply (wp_hlo_within 𝒱 (SparseCore.T d) none Set.univ (op := op5) (S := arrs) (sub_two rfl rfl) (V := (op4 (F := F)).result ((op3 (F := F)).result ((op2 (F := F)).result (V2 m d))))) $$ [Hb Hheld]
  · isplitl [Hb] <;> iassumption
  iintro ⟨Hb, Hheld⟩
  rw [wp_ret]; imodintro
  -- the dense stage's region
  ihave #Hlev := ((K (F := F)).ctx_levAts (EH := EH) (P := P m) κ) $$ Hctx
  unfold SparseCore.Cfg.tcSt
  rw [(K (F := F)).Otc_end d (le_refl 1)]
  icases Hst with ⟨HO, Hst⟩
  ihave HO := (Entails.of_eq (show (iprop(∃ W, ⌜(K (F := F)).WBelow (SparseCore.T d) W (8 * SparseCore.Cfg.Blocks.fst 1 1 (((0 : Fin 1) : ℕ) + 1))⌝
      ∗ owes (SparseCore.T d) ((K (F := F)).Otc d (((0 : Fin 1) : ℕ) + 1)) W) : sProp 𝕄) = Dense.owesEarly d from by
    rw [(K (F := F)).Otc_end d (show 1 ≤ ((0 : Fin 1) : ℕ) + 1 from le_refl 1)]; rfl)) $$ HO
  icases HG with ⟨Hcg, Htk⟩
  iapply ((K (F := F)).wp_liftProg (D (F := F)) 𝒱 (SparseCore.T d) Set.univ none (Prog.lift (.customCall (Pipeline.entry 0) ())) _)
  iapply (Pipeline.RegionSeg.wp (pcfgs (F := F)) adm (Dense.pdats fun c b => V6 m c b) (none : HIx 1) cellOf_inj EP defs₀ 𝒱₀ (K (F := F)).L (K (F := F)).lev
    (dreg m) d none (by simp) .ret _)
  isplitl [Hst Hts]
  · iintro ⟨Hb, Hp⟩
    ihave Hp := (Entails.of_eq (show (dreg m).post d = iprop(unscopedBufs d (fun b => V7 m d b) ∗ Dense.owesEarly d) from rfl)) $$ Hp
    icases Hp with ⟨Hub, HO⟩
    rw [wp_ret]; imodintro; imodintro
    isplitl [Hst HO]
    · isplitl [HO]; · iexact HO
      iexact Hst
    isplitr [Hb Hts]
    · ihave Hub := (Entails.of_eq (unscoped_eq d (V7 m d))) $$ Hub
      iexact Hub
    isplitl [Hb] <;> iassumption
  isplitl [Hb]; · iexact Hb
  isplitl [Hheld HO]
  · rw [show (dreg m).pre d = iprop(unscopedBufs d (fun b => V6 m d b) ∗ Dense.owesEarly d) from rfl]
    isplitl [Hheld]
    · ihave Hub := (Entails.of_eq (show (held (SparseCore.T d) arrs ((op5 (F := F)).result ((op4 (F := F)).result ((op3 (F := F)).result ((op2 (F := F)).result (V2 m d)))) ) : sProp 𝕄)
        = unscopedBufs d (fun b => V6 m d b) from (unscoped_eq d (V6 m d)).symm)) $$ Hheld
      iexact Hub
    iexact HO
  isplitr; · iexact Hlev
  isplitl [Hcg] <;> iassumption

/-! ## The final memory -/

/-- What the claims read of device `d`'s final state: every array at the last valuation. -/
def fq (d : Dev nD) (s' : Phys nD τ sig (Elt F)) : Prop := ∀ b ∈ arrs, s'.mem.mem (d, b) = V7 m d b

theorem hfin (d : Dev nD) (s' : Phys nD τ sig (Elt F)) : iprop(FIN m d ∗ SI s') ⊢ (⌜fq m d s'⌝ : sProp 𝕄) := by
  unfold fq
  refine (forall_intro fun b => (forall_intro fun hb => ?_ : _ ⊢ iprop(∀ _ : b ∈ arrs, ⌜s'.mem.mem (d, b) = V7 m d b⌝)).trans pure_forall.2).trans pure_forall.2
  iintro ⟨Hheld, HSI⟩
  unfold FIN StableHlo.held
  have hel : (bigSep arrs fun b => ((d, b) : Loc nD τ sig) ↦{fullShare} V7 m d b) ⊢ (((d, b) : Loc nD τ sig) ↦{fullShare} V7 m d b : sProp 𝕄) := BI.bigSep_elim hb
  ihave Hb := hel $$ Hheld
  ihave H := (SI_pointsTo_agree (st := s') (ℓ := ((d, b) : Loc nD τ sig)) (I := Finset.univ) (q := fullShare) (f := V7 m d b)) $$ [HSI Hb]
  · isplitl [HSI] <;> iassumption
  icases H with %h
  ipureintro; exact funext fun i => h i (Finset.mem_univ i)

/-! ## The program's run -/

def QC : PUnit × MemSt nD τ sig (Elt F) → Prop := fun r =>
  (∀ c : Dev nD, r.2.mem (c.tc.loc main_v6) = outV m c
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) ∧ r.2.mem (c.tc.loc main_arg7) = m (c.tc.loc main_arg7)
    ∧ r.2.mem (c.tc.loc main_arg8) = m (c.tc.loc main_arg8)) ∧ r.2.sem = fun _ => 0

/-- An array nothing in the program writes stays as launched. -/
theorem V7_kept (d : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) : V7 m d b = m ((SparseCore.T d).loc b) :=
  (Function.update_of_ne (StableHlo.devRef_ne_of_ne h6) _ _).trans
    ((V6_ne m d b h2 h3 h4 h5).trans ((V2_ne m d b h1).trans (V1_ne m d b h0)))

theorem fq_kept {d : Dev nD} {s' : Phys nD τ sig (Elt F)} (h : fq m d s') (b : Ref sig .tc) (hs : b.isScoped = false) (h0 : b ≠ main_v0) (h1 : b ≠ main_v1)
    (h2 : b ≠ main_v2) (h3 : b ≠ main_v3) (h4 : b ≠ main_v4) (h5 : b ≠ main_v5) (h6 : b ≠ main_v6) :
    s'.mem.mem (d.tc.loc b) = m (d.tc.loc b) :=
  (h _ (mem_arrs b hs)).trans (V7_kept m d b h0 h1 h2 h3 h4 h5 h6)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨fun c =>
      ⟨(h c _ (mem_arrs main_v6 rfl)).trans (Function.update_self _ _ _),
        fq_kept m (h c) main_arg0 rfl (by decide) (by decide) (by decide) (by decide) (by decide) (by decide) (by decide),
        fq_kept m (h c) main_arg1 rfl (by decide) (by decide) (by decide) (by decide) (by decide) (by decide) (by decide),
        fq_kept m (h c) main_arg2 rfl (by decide) (by decide) (by decide) (by decide) (by decide) (by decide) (by decide),
        fq_kept m (h c) main_arg3 rfl (by decide) (by decide) (by decide) (by decide) (by decide) (by decide) (by decide),
        fq_kept m (h c) main_arg4 rfl (by decide) (by decide) (by decide) (by decide) (by decide) (by decide) (by decide),
        fq_kept m (h c) main_arg5 rfl (by decide) (by decide) (by decide) (by decide) (by decide) (by decide) (by decide),
        fq_kept m (h c) main_arg6 rfl (by decide) (by decide) (by decide) (by decide) (by decide) (by decide) (by decide),
        fq_kept m (h c) main_arg7 rfl (by decide) (by decide) (by decide) (by decide) (by decide) (by decide) (by decide),
        fq_kept m (h c) main_arg8 rfl (by decide) (by decide) (by decide) (by decide) (by decide) (by decide) (by decide)⟩, hz⟩)

end Cert.Proof.Seg

end
-- ==== Proof.Frames.lean ====
/-
  The frames: the index precondition read as a bound on every segment id, the kernel's two frames from its one run, and
  the reference's.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_in_range
public import Idealize.ShloMosaic.Lib.Quiescent

@[expose] public section

noncomputable section

namespace Cert.Proof.Seg

open Idealize.ShloMosaic Idealize.SL.Sem
open Idealize.ShloMosaic.TcCoe
open Cert.KernelIdeal.Gen Cert.Kernel.Gen Cert.ReferenceIdeal.Gen Cert.Pre_in_range.Gen

/-! ## The precondition -/

theorem andi_one {a b : BitVec 1} (h : IntOp.andi a b = 1#1) : a = 1#1 ∧ b = 1#1 := by
  revert a b; decide

/-- A conjunction over a list that comes out true has every member true. -/
theorem foldl_andi_one {α : Type} (g : α → BitVec 1) : ∀ (L : List α) (a : BitVec 1),
    L.foldl (fun r n => IntOp.andi r (g n)) a = 1#1 → a = 1#1 ∧ ∀ n ∈ L, g n = 1#1
  | [], a, h => ⟨h, fun _ hn => nomatch hn⟩
  | x :: L, a, h => by
    obtain ⟨h1, h2⟩ := foldl_andi_one g L _ h
    obtain ⟨h3, h4⟩ := andi_one h1
    refine ⟨h3, fun n hn => ?_⟩
    rcases List.mem_cons.1 hn with rfl | hn
    · exact h4
    · exact h2 n hn

/-- A signed word between 0 and 1024 is below 1024 as a natural. -/
theorem word_lt {v : BitVec 32} (e : IntOp.andi (IntOp.cmpi .sge v 0#32) (IntOp.cmpi .slt v 1024#32) = 1#1) : v.toNat < 1024 := by
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition, read at one node. -/
theorem lt_of_pre {F : FTy → Type} [FloatOps F] {x0 : FVec F Cert.Pre_in_range.S100000x7 .f32} {x1 : IVec Cert.Pre_in_range.S2x1600000 32}
    {x2 : FVec F Cert.Pre_in_range.S1600000x4 .f32} {x3 : FVec F Cert.Pre_in_range.S1024x64 .f32} {b : IVec Cert.Pre_in_range.S100000 32}
    {x5 : FVec F Cert.Pre_in_range.S71x64 .f32} {x6 : FVec F Cert.Pre_in_range.S64 .f32} {x7 : FVec F Cert.Pre_in_range.S64x64 .f32}
    {x8 : FVec F Cert.Pre_in_range.S64 .f32}
    (h : Cert.Pre_in_range.fn (F := F) x0 x1 x2 x3 b x5 x6 x7 x8 = fun _ => 1#1) (i : Cert.Pre_in_range.S100000.Idx) : (b i).toNat < 1024 := by
  have e := congrFun h (fun a => a.elim0)
  have e' := (foldl_andi_one _ _ _ e).2 (Cert.Pre_in_range.S100000.rowMajor i)
    (List.mem_filter.2 ⟨List.mem_finRange _, decide_eq_true (funext fun a => a.elim0)⟩)
  rw [Equiv.symm_apply_apply] at e'
  exact word_lt e'

theorem ok_of_pre (m : (ℓ : Loc Cert.KernelIdeal.nD Cert.KernelIdeal.τ Cert.KernelIdeal.sig) → Buf (Elt Ideal) ℓ) (h : Cert.Pre_KernelIdeal m) :
    PreOK (F := Ideal) m := fun d i => lt_of_pre (h d) i

theorem ok_of_pre_bits (m : (ℓ : Loc Cert.Kernel.nD Cert.Kernel.τ Cert.Kernel.sig) → Buf (Elt Bits) ℓ) (h : Cert.Pre_Kernel m) :
    PreOK (F := Bits) m := fun d i => lt_of_pre (h d) i

/-! ## The frames -/

/-- The two programs' TensorCore bodies are one text. -/
theorem body1_eq : @Cert.Kernel.cc1_body Bits _ Cert.Kernel.Gen.facts = @Cert.KernelIdeal.cc1_body Bits _ Cert.KernelIdeal.Gen.facts := rfl
/-- The two programs' SparseCore kernels are one text. -/
theorem body0_eq : @Cert.Kernel.cc0_seg_kernel Bits _ Cert.Kernel.Gen.facts = @Cert.KernelIdeal.cc0_seg_kernel Bits _ Cert.KernelIdeal.Gen.facts := rfl
/-- So are their tables of kernel bodies, label by label,  -/
theorem defs₀_eq : Cert.Kernel.defs₀ (F := Bits) = Cert.KernelIdeal.defs₀ (F := Bits) := by
  funext p l a
  match p, l, a with
  | .tc, ⟨0, _⟩, _ => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

/-- and their tables of bodies with the calls' own. -/
theorem defs_eq : Cert.Kernel.defs (F := Bits) = Cert.KernelIdeal.defs (F := Bits) := by
  show Cert.Kernel.sc.defs (Pipeline.defs Cert.Kernel.pcfgs Cert.Kernel.defs₀) = Cert.KernelIdeal.sc.defs (Pipeline.defs Cert.KernelIdeal.pcfgs Cert.KernelIdeal.defs₀)
  rw [← defs₀_eq]
  rfl
/-- The kernel over bit patterns: its program is the idealized kernel's own text, so the one run is read at `Bits`. -/
theorem frame_kernel : Cert.quiescent_Kernel := by
  intro m ρ h
  have hr := run_main (F := Bits) m ρ (ok_of_pre_bits m h)
  have hq := (θ_run (Cert.KernelIdeal.defs (F := Bits)) _ _).mono
    (Q' := fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5)
      ∧ r.2.mem (c.tc.loc Cert.KernelIdeal.main_arg6) = m (c.tc.loc Cert.KernelIdeal.main_arg6)
      ∧ r.2.mem (c.tc.loc Cert.KernelIdeal.main_arg7) = m (c.tc.loc Cert.KernelIdeal.main_arg7)
      ∧ r.2.mem (c.tc.loc Cert.KernelIdeal.main_arg8) = m (c.tc.loc Cert.KernelIdeal.main_arg8)) ∧ r.2.sem = fun _ => 0)
    (fun _ h => ⟨fun c => (h.1 c).2, h.2⟩) hr
  rw [defs_eq]
  exact hq

/-- The kernel over the extended reals. -/
theorem frame_ideal : Cert.quiescent_KernelIdeal := fun m ρ h =>
  (θ_run Cert.KernelIdeal.defs _ _).mono (fun _ h => ⟨fun c => (h.1 c).2, h.2⟩) (run_main (F := Ideal) m ρ (ok_of_pre m h))

/-- The reference declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Seg

end
-- ==== Proof.IdealDense.lean ====
/-
  The dense stage over the extended reals: the kernel's perceptron of its thirty-two tables is the reference's
  perceptron of the segment sums, once the tables add up to them.
-/
module

public import proofs.«01_k».proof.Proof.DenseRegion
public import proofs.«01_k».proof.Proof.Gen.ReferenceIdeal
public import Idealize.ShloMosaic.Lib.Pointwise

@[expose] public section

noncomputable section

namespace Cert.Proof.Dense

open Idealize.ShloMosaic
open Cert.KernelIdeal.Gen Cert.ReferenceIdeal.Gen

section
open Cert.KernelIdeal

set_option maxRecDepth 65536 in
/-- The kernel's sum of the thirty-two tables, at one entry. -/
theorem sum_tables (p : Vec Ideal S32x8x1024 .f32) (f : Fin 8) (s : Fin 1024) (g : ℕ → EReal) (h : ∀ w : Fin 32, p (ix3 w f s) = g w.val) :
    sum30 p (ix2 f s) + p (ix3 30 f s) + p (ix3 31 f s) = ∑ w ∈ Finset.range 32, g w := by
  simp only [Finset.sum_range_succ, Finset.sum_range_zero, zero_add]
  pointwise [sum30, k1_pay1, k1_pay2, k1_pay3, row]
  simp only [h]
  rfl

end

/-! ## The reference's perceptron -/

section
open Cert.ReferenceIdeal Cert.ReferenceIdeal.Facts

/-- The hidden layer before its rectifier, of the segments' sums and counts. -/
def refHid (u : FVec Ideal S1024x64 .f32) (S : FVec Ideal S1024x7 .f32) (C : FVec Ideal S1024x1 .f32) (W1 : FVec Ideal S71x64 .f32)
    (b1 : FVec Ideal S64 .f32) : FVec Ideal S1024x64 .f32 :=
  addf (Host.dotGeneral dot_S1024x71_S71x64_S1024x64_1_0_0_1_n_n none
      (concatenate S1024x71 1 [⟨S1024x64, u⟩, ⟨S1024x7, Host.divf S (broadcastInDim S1024x7 ![0, 1] bcast_S1024x1_S1024x7_0_1
        (maximumf C (broadcastInDim S1024x1 ![] bcast_S_S1024x1 (constant S_ .f32 0x3F800000#32))))⟩] concatenates_S1024x64_S1024x7_S1024x71_d1) W1)
    (broadcastInDim S1024x64 ![0, 1] bcast_S1x64_S1024x64_0_1 (broadcastInDim S1x64 ![1] bcast_S64_S1x64_1 b1))

/-- The result, of the segments' sums and counts. -/
def refOut (u : FVec Ideal S1024x64 .f32) (S : FVec Ideal S1024x7 .f32) (C : FVec Ideal S1024x1 .f32) (W1 : FVec Ideal S71x64 .f32)
    (b1 : FVec Ideal S64 .f32) (W2 : FVec Ideal S64x64 .f32) (b2 : FVec Ideal S64 .f32) : FVec Ideal S1024x64 .f32 :=
  addf (Host.dotGeneral dot_S1024x64_S64x64_S1024x64_1_0_0_1_n_n none
      (select (cmpf .oge (refHid u S C W1 b1) (broadcastInDim S1024x64 ![] bcast_S_S1024x64 (constant S_ .f32 0x00000000#32)))
        (refHid u S C W1 b1) (mulf (broadcastInDim S1024x64 ![] bcast_S_S1024x64 (constant S_ .f32 0x3C23D70A#32)) (refHid u S C W1 b1))) W2)
    (broadcastInDim S1024x64 ![0, 1] bcast_S1x64_S1024x64_0_1 (broadcastInDim S1x64 ![1] bcast_S64_S1x64_1 b2))

end

section
open Cert.KernelIdeal Cert.KernelIdeal.Facts

set_option maxRecDepth 65536 in
/-- The kernel's dense stage, on the slices and rows of the weights that the host code cuts, is the reference's. -/
theorem dense_eq (p : Vec Ideal S32x8x1024 .f32) (u : Vec Ideal S1024x64 .f32) (W1 : Vec Ideal S71x64 .f32)
    (b1 : Vec Ideal S64 .f32) (W2 : Vec Ideal S64x64 .f32) (b2 : Vec Ideal S64 .f32)
    (S : FVec Ideal Cert.ReferenceIdeal.S1024x7 .f32) (C : FVec Ideal Cert.ReferenceIdeal.S1024x1 .f32) (A : ℕ → ℕ → ℕ → EReal)
    (hp : ∀ (w : Fin 32) (f : Fin 8) (s : Fin 1024), p (ix3 w f s) = A w.val f.val s.val)
    (hS : ∀ (s : Fin 1024) (f : Fin 7), S (ix2 s f) = ∑ w ∈ Finset.range 32, A w f.val s.val)
    (hC : ∀ s : Fin 1024, C (ix2 s 0) = ∑ w ∈ Finset.range 32, A w 7 s.val) :
    dense p u (extractStridedSlice S64x64 ![0, 0] W1 slices_S71x64_S64x64_0_0) (extractStridedSlice S7x64 ![64, 0] W1 slices_S71x64_S7x64_64_0)
      (shapeCast S1x64 b1 shapeCasts_S64_S1x64) W2 (shapeCast S1x64 b2 shapeCasts_S64_S1x64) = refOut u S C W1 b1 W2 b2 := by
  have h7 : ∀ s : Fin 1024, sum30 p (ix2 7 s) + p (ix3 30 7 s) + p (ix3 31 7 s) = C (ix2 s 0) := fun s =>
    (sum_tables p 7 s _ fun w => hp w 7 s).trans (hC s).symm
  have hf : ∀ (s : Fin 1024) (f : Fin 7) (hl : f.val < 8), sum30 p (ix2 ⟨f.val, hl⟩ s) + p (ix3 30 ⟨f.val, hl⟩ s) + p (ix3 31 ⟨f.val, hl⟩ s) = S (ix2 s f) :=
    fun s f hl => (sum_tables p ⟨f.val, hl⟩ s _ fun w => hp w ⟨f.val, hl⟩ s).trans (hS s f).symm
  funext j
  obtain ⟨s, l, rfl⟩ : ∃ (s : Fin 1024) (l : Fin 64), j = ix2 s l := ⟨j 0, j 1, eq_ix2 j⟩
  pointwise [dense, k1_pay4, row, refOut, refHid]
  simp only [h7, hf]

end

end Cert.Proof.Dense

end
-- ==== Proof.IdealSums.lean ====
/-
  The segment sums over the extended reals, where the order of an addition does not matter: the tiles' tables, folded
  lane by lane, add up to one sum over the nodes; and the reference's scatter is that sum as well.
-/
module

public import proofs.«01_k».proof.Proof.Value
public import proofs.«01_k».proof.Proof.Gen.ReferenceIdeal
public import Idealize.ShloMosaic.Lib.Pointwise
public import Idealize.ShloMosaic.Lib.Routing.OpsPair
public import Idealize.ShloMosaic.Lib.Pipeline.ValueKit.Acc

@[expose] public section

noncomputable section

namespace Cert.Proof.Seg

open Idealize.ShloMosaic

/-! ## The kernel's tables -/

section
open Cert.KernelIdeal

variable (xt : S7x100000.Idx → Ideal .f32) (bt : S100000.Idx → BitVec 32)

/-- What node `n` adds to feature `f` of segment `s`. -/
def part (f s n : ℕ) : EReal := if bg bt n = s then xg xt f n else 0

/-- The `i`-th node of a tile, and nothing past its last. -/
def lanePart (w f s i : ℕ) : EReal := if i < 3125 then part xt bt f s (w * 3125 + i) else 0

/-- A fold that adds at some of its steps, as a sum. -/
theorem foldl_add_ite {α : Type} (l : List α) (c : α → Prop) [DecidablePred c] (y : α → EReal) (a : EReal) :
    l.foldl (fun b k => if c k then b + y k else b) a = a + (l.map fun k => if c k then y k else 0).sum := by
  induction l generalizing a with
  | nil => simp
  | cons k l ih =>
    rw [List.foldl_cons, ih, List.map_cons, List.sum_cons]
    by_cases h : c k
    · rw [if_pos h, if_pos h, add_assoc]
    · rw [if_neg h, if_neg h, zero_add]

/-- One vector of sixteen lanes adds its lanes. -/
theorem stepA_ideal (w j : ℕ) (φ : ℕ → ℕ → Ideal .f32) (f s : ℕ) :
    stepA xt bt w j φ f s = (φ f s : EReal) + ∑ k ∈ Finset.range 16, lanePart xt bt w f s (k * 196 + j) := by
  have h := foldl_add_ite (List.finRange 16) (fun k => k.val * 196 + j < 3125 ∧ bg bt (w * 3125 + (k.val * 196 + j)) = s)
    (fun k => xg xt f (w * 3125 + (k.val * 196 + j))) (φ f s)
  refine h.trans ?_
  rw [← Fin.sum_univ_def, ← Fin.sum_univ_eq_sum_range (fun k => lanePart xt bt w f s (k * 196 + j))]
  congr 1
  exact Finset.sum_congr rfl fun k _ => by unfold lanePart part; rw [ite_and]

/-- After `t` steps a tile's table holds the lanes of those steps. -/
theorem accT_ideal (w t f s : ℕ) : (accT xt bt w t f s : EReal)
    = ∑ j ∈ Finset.range t, (∑ k ∈ Finset.range 16, lanePart xt bt w f s (k * 196 + j)
        + ∑ k ∈ Finset.range 16, lanePart xt bt w f s (k * 196 + (98 + j))) := by
  induction t with
  | zero => exact Ideal.ofBits_zero_f32
  | succ t ih => rw [accT, stepA_ideal, stepA_ideal, ih, Finset.sum_range_succ (n := t), add_assoc, Nat.add_comm t 98]

/-- A tile's table holds the sums over the tile's nodes. -/
theorem accT_nodes (w f s : ℕ) : (accT xt bt w 98 f s : EReal) = ∑ i ∈ Finset.range 3125, part xt bt f s (w * 3125 + i) := by
  rw [accT_ideal, Finset.sum_add_distrib, ← Finset.sum_range_add (fun j => ∑ k ∈ Finset.range 16, lanePart xt bt w f s (k * 196 + j)) 98 98,
    Finset.sum_comm, Finset.sum_range_range_mul_add 16 196 (lanePart xt bt w f s), show 16 * 196 = 3125 + 11 from rfl, Finset.sum_range_add,
    Finset.sum_eq_zero (s := Finset.range 11) (f := fun x => lanePart xt bt w f s (3125 + x)) (fun x _ => if_neg (by omega)), add_zero]
  exact Finset.sum_congr rfl fun i hi => if_pos (Finset.mem_range.1 hi)

/-- The thirty-two tables add up to the sums over all nodes. -/
theorem tables_sum (f s : ℕ) : ∑ w ∈ Finset.range 32, (accT xt bt w 98 f s : EReal) = ∑ n ∈ Finset.range 100000, part xt bt f s n := by
  simp only [accT_nodes]
  exact Finset.sum_range_range_mul_add 32 3125 _

end

/-! ## The reference's scatter -/

/-- The dimension numbers of a segment sum over rows of `C` entries. -/
abbrev segDims (C : ℕ) (h : ScatterDims.WF ⟨2, ![1024, C]⟩ ⟨2, ![100000, 1]⟩ ⟨2, ![100000, C]⟩ [1] [0] [0] 1) :
    ScatterDims ⟨2, ![1024, C]⟩ ⟨2, ![100000, 1]⟩ ⟨2, ![100000, C]⟩ where
  updateWindowDims := [1]
  insertedWindowDims := [0]
  scatterDimsToOperandDims := [0]
  indexVectorDim := 1
  wf := h

/-- Row `n` lands on the segment its index names, entry by entry. -/
theorem seg_lands {C : ℕ} (h : ScatterDims.WF ⟨2, ![1024, C]⟩ ⟨2, ![100000, 1]⟩ ⟨2, ![100000, C]⟩ [1] [0] [0] 1)
    (idx : IVec ⟨2, ![100000, 1]⟩ 32) (n : Fin 100000) (e : Fin C) (s : Fin 1024) (f : Fin C) :
    (segDims C h).resultIdx? (ix2 n e) idx = some (ix2 s f) ↔ (idx (ix2 n 0)).toInt = (s.val : Int) ∧ e = f := by
  have s0 : (segDims C h).start (ix2 n e) idx 0 = (idx (ix2 n 0)).toInt := by
    unfold ScatterDims.start
    rw [dif_pos (List.mem_singleton.2 rfl)]
    refine congrArg (fun q => (idx q).toInt) ?_
    funext a
    match a with
    | ⟨0, _⟩ => rfl
    | ⟨1, _⟩ => rfl
  have s1 : (segDims C h).start (ix2 n e) idx 1 = 0 := rfl
  have w0 : (segDims C h).window (ix2 n e) 0 = 0 := rfl
  have w1 : (segDims C h).window (ix2 n e) 1 = e.val := rfl
  rw [Routing.resultIdx?_eq_some, Fin.forall_fin_two, s0, s1, w0, w1]
  show (_ + ((0 : ℕ) : Int) = (s.val : Int) ∧ (0 : Int) + (e.val : Int) = (f.val : Int)) ↔ _
  rw [Fin.ext_iff]
  omega

/-- A segment sum at one entry: the rows whose index names the segment. -/
theorem seg_scatter {C : ℕ} (h : ScatterDims.WF ⟨2, ![1024, C]⟩ ⟨2, ![100000, 1]⟩ ⟨2, ![100000, C]⟩ [1] [0] [0] 1)
    (x : FVec Ideal ⟨2, ![1024, C]⟩ .f32) (idx : IVec ⟨2, ![100000, 1]⟩ 32) (u : FVec Ideal ⟨2, ![100000, C]⟩ .f32) (s : Fin 1024) (f : Fin C) :
    (Host.scatterAdd (segDims C h) x idx u (ix2 s f) : EReal)
      = x (ix2 s f) + ∑ n : Fin 100000, if (idx (ix2 n 0)).toInt = (s.val : Int) then (u (ix2 n f) : EReal) else 0 := by
  show (x (ix2 s f) : EReal) + ∑ j ∈ Finset.univ.filter (fun j => (segDims C h).resultIdx? j idx = some (ix2 s f)), (u j : EReal) = _
  rw [Finset.sum_filter, sum_idx2]
  refine congrArg (x (ix2 s f) + ·) (Finset.sum_congr rfl fun n _ => ?_)
  simp only [seg_lands]
  by_cases hn : (idx (ix2 n 0)).toInt = (s.val : Int)
  · simp [hn]
  · simp [hn]

end Cert.Proof.Seg

end
-- ==== Proof.Algebraic.lean ====
/-
  The value claim: over the extended reals the kernel's result is the reference's.
-/
module

public import proofs.«01_k».proof.Proof.Frames
public import proofs.«01_k».proof.Proof.IdealDense
public import proofs.«01_k».proof.Proof.IdealSums

@[expose] public section

noncomputable section

namespace Cert.Proof.Seg

open Idealize.ShloMosaic
open Idealize.ShloMosaic.TcCoe
open Cert.KernelIdeal.Gen Cert.ReferenceIdeal.Gen

/-! ## The reference's sums and counts are the kernel's tables -/

section
open Cert.ReferenceIdeal Cert.ReferenceIdeal.Facts

variable (X : FVec Ideal S100000x7 .f32) (B : IVec S100000 32)

/-- The reference's sums of the features, by segment. -/
def refSums : FVec Ideal S1024x7 .f32 :=
  Host.scatterAdd scatter_S1024x7_S100000x1_S100000x7_1_0_0_1 (broadcastInDim S1024x7 ![] bcast_S_S1024x7 (constant S_ .f32 0x00000000#32))
    (broadcastInDim S100000x1 ![0] bcast_S100000_S100000x1_0 B) X

/-- The reference's counts, by segment. -/
def refCounts : FVec Ideal S1024x1 .f32 :=
  Host.scatterAdd scatter_S1024x1_S100000x1_S100000x1_1_0_0_1 (broadcastInDim S1024x1 ![] bcast_S_S1024x1 (constant S_ .f32 0x00000000#32))
    (broadcastInDim S100000x1 ![0] bcast_S100000_S100000x1_0 B) (broadcastInDim S100000x1 ![] bcast_S_S100000x1 (constant S_ .f32 0x3F800000#32))

/-- The kernel's copy of the features, a row for each. -/
abbrev rows : FVec Ideal Cert.KernelIdeal.S7x100000 .f32 :=
  transpose Cert.KernelIdeal.S7x100000 [1, 0] X Cert.KernelIdeal.Facts₀.transposes_S100000x7_S7x100000_1_0

/-- A segment id in range is the same number signed and unsigned. -/
theorem toInt_eq_iff (b : BitVec 32) (s : ℕ) (h : b.toNat < 1024) : b.toInt = (s : Int) ↔ b.toNat = s := by
  rw [BitVec.toInt_eq_toNat_of_lt (by omega)]
  omega

/-- The sums are those the tables hold in their first seven rows. -/
theorem refSums_apply (hB : ∀ i, (B i : BitVec 32).toNat < 1024) (s : Fin 1024) (f : Fin 7) :
    (refSums X B (ix2 s f) : EReal) = ∑ w ∈ Finset.range 32, (accT (rows X) B w 98 f.val s.val : EReal) := by
  rw [tables_sum, ← Fin.sum_univ_eq_sum_range (part (rows X) B f.val s.val)]
  refine (seg_scatter _ _ _ _ s f).trans ?_
  refine (congrArg (· + _) Ideal.ofBits_zero_f32).trans ((zero_add _).trans (Finset.sum_congr rfl fun n _ => ?_))
  have hb : bg B n.val = (B (ix1 n) : BitVec 32).toNat := by
    unfold bg
    rw [dif_pos n.isLt]
    exact congrArg (fun i => (B i : BitVec 32).toNat) (eq_ix1 _)
  have hx : (xg (rows X) f.val n.val : EReal) = X (ix2 n f) := by
    unfold xg
    rw [dif_pos ⟨f.isLt, n.isLt⟩, show (at2 f.val n.val f.isLt n.isLt : Cert.KernelIdeal.S7x100000.Idx) = ix2 f n from eq_ix2 _]
    pointwise [rows]
  have hi : (broadcastInDim S100000x1 ![0] bcast_S100000_S100000x1_0 B (ix2 n 0) : BitVec 32) = B (ix1 n) := by pointwise
  unfold part
  rw [hb, hx, hi]
  exact if_congr (toInt_eq_iff _ _ (hB _)) rfl rfl

/-- The counts are those the tables hold in their last row. -/
theorem refCounts_apply (hB : ∀ i, (B i : BitVec 32).toNat < 1024) (s : Fin 1024) :
    (refCounts B (ix2 s 0) : EReal) = ∑ w ∈ Finset.range 32, (accT (rows X) B w 98 7 s.val : EReal) := by
  rw [tables_sum, ← Fin.sum_univ_eq_sum_range (part (rows X) B 7 s.val)]
  refine (seg_scatter _ _ _ _ s 0).trans ?_
  refine (congrArg (· + _) Ideal.ofBits_zero_f32).trans ((zero_add _).trans (Finset.sum_congr rfl fun n _ => ?_))
  have hb : bg B n.val = (B (ix1 n) : BitVec 32).toNat := by
    unfold bg
    rw [dif_pos n.isLt]
    exact congrArg (fun i => (B i : BitVec 32).toNat) (eq_ix1 _)
  have hx : (xg (rows X) 7 n.val : EReal) = Scalar.ofBits (F := Ideal) .f32 0x3F800000#32 := by
    unfold xg
    rw [dif_neg fun h => absurd h.1 (by decide)]
  have hi : (broadcastInDim S100000x1 ![0] bcast_S100000_S100000x1_0 B (ix2 n 0) : BitVec 32) = B (ix1 n) := by pointwise
  unfold part
  rw [hb, hx, hi]
  exact if_congr (toInt_eq_iff _ _ (hB _)) rfl rfl

end

/-! ## What the kernel's dense stage is given -/

section
open Cert.KernelIdeal Cert.KernelIdeal.Facts

variable (m : (ℓ : Loc nD τ sig) → Buf (Elt Ideal) ℓ)

/-- The arrays the dense stage reads: the arguments as they came,  -/
theorem V6_arg (d : Dev nD) (b : Ref sig .tc) (h0 : b ≠ main_v0) (h1 : b ≠ main_v1) (h2 : b ≠ main_v2) (h3 : b ≠ main_v3) (h4 : b ≠ main_v4)
    (h5 : b ≠ main_v5) : V6 m d b = m ((SparseCore.T d).loc b) :=
  (V6_ne m d b h2 h3 h4 h5).trans ((V2_ne m d b h1).trans (V1_ne m d b h0))

/-- the tables,  -/
theorem V6_v1 (d : Dev nD) : V6 m d main_v1 = pT m d := (V6_ne m d main_v1 (by decide) (by decide) (by decide) (by decide)).trans (V2_p m d)

/-- (the same before the host code's slices) -/
theorem V2_arg (d : Dev nD) (b : Ref sig .tc) (h0 : b ≠ main_v0) (h1 : b ≠ main_v1) : V2 m d b = m ((SparseCore.T d).loc b) :=
  (V2_ne m d b h1).trans (V1_ne m d b h0)

/-- the weights' rows for the globals and for the means,  -/
theorem V6_v2 (d : Dev nD) : V6 m d main_v2 = extractStridedSlice S64x64 ![0, 0] (m ((SparseCore.T d).loc main_arg5) : Vec Ideal S71x64 .f32) slices_S71x64_S64x64_0_0 := by
  unfold V6
  rw [StableHlo.reshape_result_ne _ _ _ _ _ _ _ (by decide), StableHlo.reshape_result_ne _ _ _ _ _ _ _ (by decide),
    StableHlo.unary_result_ne _ _ _ _ _ _ (by decide), StableHlo.unary_result, V2_arg m d main_arg5 (by decide) (by decide)]

theorem V6_v3 (d : Dev nD) : V6 m d main_v3 = extractStridedSlice S7x64 ![64, 0] (m ((SparseCore.T d).loc main_arg5) : Vec Ideal S71x64 .f32) slices_S71x64_S7x64_64_0 := by
  unfold V6
  rw [StableHlo.reshape_result_ne _ _ _ _ _ _ _ (by decide), StableHlo.reshape_result_ne _ _ _ _ _ _ _ (by decide),
    StableHlo.unary_result, StableHlo.unary_result_ne _ _ _ _ _ _ (by decide), V2_arg m d main_arg5 (by decide) (by decide)]

/-- and the biases, as rows. -/
theorem V6_v4 (d : Dev nD) : V6 m d main_v4 = shapeCast S1x64 (m ((SparseCore.T d).loc main_arg6) : Vec Ideal S64 .f32) shapeCasts_S64_S1x64 := by
  unfold V6
  rw [StableHlo.reshape_result_ne _ _ _ _ _ _ _ (by decide), StableHlo.reshape_result,
    StableHlo.unary_result_ne _ _ _ _ _ _ (by decide), StableHlo.unary_result_ne _ _ _ _ _ _ (by decide), V2_arg m d main_arg6 (by decide) (by decide)]
  rfl

theorem V6_v5 (d : Dev nD) : V6 m d main_v5 = shapeCast S1x64 (m ((SparseCore.T d).loc main_arg8) : Vec Ideal S64 .f32) shapeCasts_S64_S1x64 := by
  unfold V6
  rw [StableHlo.reshape_result, StableHlo.reshape_result_ne _ _ _ _ _ _ _ (by decide),
    StableHlo.unary_result_ne _ _ _ _ _ _ (by decide), StableHlo.unary_result_ne _ _ _ _ _ _ (by decide), V2_arg m d main_arg8 (by decide) (by decide)]
  rfl

/-- The kernel's result is the reference's perceptron of the reference's sums and counts. -/
theorem outV_eq (hpre : PreOK m) (d : Dev nD) :
    outV m d = Dense.refOut (m ((SparseCore.T d).loc main_arg3)) (refSums (m ((SparseCore.T d).loc main_arg0)) (m ((SparseCore.T d).loc main_arg4)))
      (refCounts (m ((SparseCore.T d).loc main_arg4))) (m ((SparseCore.T d).loc main_arg5)) (m ((SparseCore.T d).loc main_arg6))
      (m ((SparseCore.T d).loc main_arg7)) (m ((SparseCore.T d).loc main_arg8)) := by
  unfold outV Dense.out
  beta_reduce
  rw [V6_v1, V6_v2, V6_v3, V6_v4, V6_v5, V6_arg m d main_arg3 (by decide) (by decide) (by decide) (by decide) (by decide) (by decide),
    V6_arg m d main_arg7 (by decide) (by decide) (by decide) (by decide) (by decide) (by decide)]
  have hS := refSums_apply (m ((SparseCore.T d).loc main_arg0)) (m ((SparseCore.T d).loc main_arg4)) (hpre d)
  have hC := refCounts_apply (m ((SparseCore.T d).loc main_arg0)) (m ((SparseCore.T d).loc main_arg4)) (hpre d)
  exact Dense.dense_eq (pT m d) _ _ _ _ _ _ _ (fun w => accT (F := Ideal) (xT m d) (bT m d) w 98) (fun _ _ _ => rfl) hS hC

end

/-! ## The claim -/

/-- From memories that agree on the arguments, the two programs end with one result. -/
theorem algebraic : Cert.algebraic_KernelIdeal_ReferenceIdeal := by
  intro m g m' g' hpre hagree
  refine ⟨fun c => outV m c, (θ_run Cert.KernelIdeal.defs _ _).mono (fun _ h c => h.1 c) (run_main (F := Ideal) m g (ok_of_pre m hpre)),
    (θ_run Cert.ReferenceIdeal.defs _ _).mono (fun r h c => ⟨(h c).1.trans ?_, (h c).2⟩) (Cert.ReferenceIdeal.Value.run (F := Ideal) m' g')⟩
  obtain ⟨h0, -, -, h3, h4, h5, h6, h7, h8⟩ := hagree c
  rw [h0, h3, h4, h5, h6, h7, h8]
  exact (outV_eq m (ok_of_pre m hpre) c).symm

end Cert.Proof.Seg

end
-- ==== Proof.lean ====
/-
  The proof of `Cert.Claim`: the frames of the kernel over bit patterns and over the extended reals, the reference's
  frame, the rewrites between the two kernels, of which there are none, and the equality of the kernel's result with
  the reference's over the extended reals.
-/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Seg.frame_kernel, Seg.frame_ideal, Seg.frame_ref, fun m ρ _ => Seg.frame_ref m ρ trivial, trivial, Seg.algebraic⟩

end Cert.Proof

end
